-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S512 : Shape := ⟨1, ![512]⟩
abbrev S512x1024 : Shape := ⟨2, ![512, 1024]⟩
abbrev S1024x512 : Shape := ⟨2, ![1024, 512]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  bcast_S_S512x1024 : S_.BroadcastsInDim S512x1024 (![] : Fin 0 → Fin S512x1024.rank)
  bcast_S_S1024x512 : S_.BroadcastsInDim S1024x512 (![] : Fin 0 → Fin S1024x512.rank)
  bcast_S_S512 : S_.BroadcastsInDim S512 (![] : Fin 0 → Fin S512.rank)

variable [Facts]

def fn_part1 {F : FTy → Type} [FloatOps F] (main_arg3 : FVec F S512 .f32) (main_v2 : IVec S8x4096x1024 1) (main_v5 : IVec S512x1024 1) (main_v8 : IVec S512x1024 1) (main_v11 : IVec S1024x512 1) (main_v13 : IVec S512 1) (main_v15 : IVec S512 1) (main_v16 : FVec F S512 .f32) : IVec S8x4096x1024 1 × IVec S512x1024 1 × IVec S512x1024 1 × IVec S1024x512 1 × IVec S512 1 × IVec S512 1 × IVec S512 1 :=
  let main_v17 : IVec S512 1 := cmpf .olt main_arg3 main_v16
  (main_v2, main_v5, main_v8, main_v11, main_v13, main_v15, main_v17)

def fn {F : FTy → Type} [FloatOps F] (main_arg0 : FVec F S8x4096x1024 .f32) (main_arg1 : FVec F S512 .f32) (main_arg2 : FVec F S512 .f32) (main_arg3 : FVec F S512 .f32) (main_arg4 : FVec F S512x1024 .f32) (main_arg5 : FVec F S512x1024 .f32) (main_arg6 : FVec F S1024x512 .f32) (main_arg7 : FVec F S1024x512 .f32) (main_arg8 : FVec F S1024x1024 .f32) : IVec S8x4096x1024 1 × IVec S512x1024 1 × IVec S512x1024 1 × IVec S1024x512 1 × IVec S512 1 × IVec S512 1 × IVec S512 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S512x1024 .f32 := Host.absf main_arg4
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S512x1024 .f32 := Host.absf main_arg5
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S1024x512 .f32 := Host.absf main_arg7
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_cst_3 : FVec F S_ .f32 := constant S_ .f32 0x7F800000#32
  let main_v12 : FVec F S512 .f32 := broadcastInDim S512 ![] bcast_S_S512 main_cst_3
  let main_v13 : IVec S512 1 := cmpf .olt main_arg1 main_v12
  let main_cst_4 : FVec F S_ .f32 := constant S_ .f32 0x7F800000#32
  let main_v14 : FVec F S512 .f32 := broadcastInDim S512 ![] bcast_S_S512 main_cst_4
  let main_v15 : IVec S512 1 := cmpf .olt main_arg2 main_v14
  let main_cst_5 : FVec F S_ .f32 := constant S_ .f32 0x7F800000#32
  let main_v16 : FVec F S512 .f32 := broadcastInDim S512 ![] bcast_S_S512 main_cst_5
  fn_part1 (F := F) main_arg3 main_v2 main_v5 main_v8 main_v11 main_v13 main_v15 main_v16
-- ==== Kernel.lean ====
abbrev S8x4096x1024 : Shape := ⟨3, ![8, 4096, 1024]⟩
abbrev S512 : Shape := ⟨1, ![512]⟩
abbrev S512x1024 : Shape := ⟨2, ![512, 1024]⟩
abbrev S1024x512 : Shape := ⟨2, ![1024, 512]⟩
abbrev S1024x1024 : Shape := ⟨2, ![1024, 1024]⟩
abbrev S_ : Shape := ⟨0, ![]⟩
abbrev S256x256 : Shape := ⟨2, ![256, 256]⟩
abbrev S1x512 : Shape := ⟨2, ![1, 512]⟩
abbrev S1x512x1024 : Shape := ⟨3, ![1, 512, 1024]⟩
abbrev S1x1024 : Shape := ⟨2, ![1, 1024]⟩
abbrev S256x512 : Shape := ⟨2, ![256, 512]⟩
abbrev S256x1024 : Shape := ⟨2, ![256, 1024]⟩
abbrev S512x512 : Shape := ⟨2, ![512, 512]⟩

abbrev nBuf : Space → Nat
  | .hbm => 25
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S512x1024, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S_, .f32⟩
  | .hbm, ⟨10, _⟩ => ⟨S256x256, .f32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S256x256, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scoped0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x1024 : Shape := ⟨3, ![8, 4096, 1024]⟩
abbrev S512 : Shape := ⟨1, ![512]⟩
abbrev S512x1024 : Shape := ⟨2, ![512, 1024]⟩
abbrev S1024x512 : Shape := ⟨2, ![1024, 512]⟩
abbrev S1024x1024 : Shape := ⟨2, ![1024, 1024]⟩
abbrev S8x4096x512 : Shape := ⟨3, ![8, 4096, 512]⟩
abbrev S1x1x512 : Shape := ⟨3, ![1, 1, 512]⟩
abbrev S_ : Shape := ⟨0, ![]⟩
abbrev S8x512 : Shape := ⟨2, ![8, 512]⟩
abbrev S8x1x512 : Shape := ⟨3, ![8, 1, 512]⟩
abbrev S1x512 : Shape := ⟨2, ![1, 512]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512x1024, .f32⟩
  | .hbm, ⟨5, _⟩ => ⟨S512x1024, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S8x4096x512, .f32⟩
  | .hbm, ⟨19, _⟩ => ⟨S1x1x512, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S1x1x512, .f32⟩
  | .hbm, ⟨24, _⟩ => ⟨S8x4096x512, .f32⟩
  | .hbm, ⟨25, _⟩ => ⟨S8x4096x512, .f32⟩
  | .hbm, ⟨26, _⟩ => ⟨S_, .f32⟩
  | .hbm, ⟨27, _⟩ => ⟨S8x512, .f32⟩
  | .hbm, ⟨28, _⟩ => ⟨S_, .f32⟩
  | .hbm, ⟨29, _⟩ => ⟨S8x4096x512, .f32⟩
  | .hbm, ⟨30, _⟩ => ⟨S_, .i32⟩
  | .hbm, ⟨31, _⟩ => ⟨S_, .i32⟩
  | .hbm, ⟨32, _⟩ => ⟨S8x4096x512, .f32⟩
  | .hbm, ⟨33, _⟩ => ⟨S8x4096x512, .f32⟩
  | .hbm, ⟨34, _⟩ => ⟨S512, .f32⟩
  | .hbm, ⟨35, _⟩ => ⟨S512, .f32⟩
  | .hbm, ⟨36, _⟩ => ⟨S_, .i32⟩
  | .hbm, ⟨37, _⟩ => ⟨S_, .i32⟩
  | .hbm, ⟨38, _⟩ => ⟨S8x512, .f32⟩
  | .hbm, ⟨39, _⟩ => ⟨S8x512, .f32⟩
  | .hbm, ⟨40, _⟩ => ⟨S8x4096x512, .f32⟩
  | .hbm, ⟨41, _⟩ => ⟨S8x4096x512, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S8x1x512, .f32⟩
  | .hbm, ⟨55, _⟩ => ⟨S8x512, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x1x512, .f32⟩
  | .hbm, ⟨65, _⟩ => ⟨S8x512, .f32⟩
  | .hbm, ⟨66, _⟩ => ⟨S1x512, .f32⟩
  | .hbm, ⟨67, _⟩ => ⟨S8x512, .f32⟩
  | .hbm, ⟨68, _⟩ => ⟨S8x512, .f32⟩
  | .hbm, ⟨69, _⟩ => ⟨S1x512, .f32⟩
  | .hbm, ⟨70, _⟩ => ⟨S8x512, .f32⟩
  | .hbm, ⟨71, _⟩ => ⟨S8x512, .f32⟩
  | .hbm, ⟨72, _⟩ => ⟨S8x512, .f32⟩
  | .hbm, ⟨73, _⟩ => ⟨S8x512, .f32⟩
  | .hbm, ⟨74, _⟩ => ⟨S1x512, .f32⟩
  | .hbm, ⟨75, _⟩ => ⟨S8x512, .f32⟩
  | .hbm, ⟨76, _⟩ => ⟨S8x512, .f32⟩
  | .hbm, ⟨77, _⟩ => ⟨S1x512, .f32⟩
  | .hbm, ⟨78, _⟩ => ⟨S8x512, .f32⟩
  | .hbm, ⟨79, _⟩ => ⟨S8x512, .f32⟩
  | .hbm, ⟨80, _⟩ => ⟨S8x512, .f32⟩
  | .hbm, ⟨81, _⟩ => ⟨S8x512, .f32⟩
  | .hbm, ⟨82, _⟩ => ⟨S8x1x512, .f32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S8x4096x512, .f32⟩
  | .hbm, ⟨92, _⟩ => ⟨S8x1x512, .f32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S8x4096x512, .f32⟩
  | .hbm, ⟨102, _⟩ => ⟨S_, .i32⟩
  | .hbm, ⟨103, _⟩ => ⟨S_, .i32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_c_1 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev main_v19_7 : Ref sig .tc := ⟨.hbm, 39, rfl⟩
abbrev main_v19_8 : Ref sig .tc := ⟨.hbm, 40, rfl⟩
abbrev main_v19_9 : Ref sig .tc := ⟨.hbm, 41, rfl⟩
abbrev main_while0c_c_11 : Ref sig .tc := ⟨.hbm, 42, rfl⟩
abbrev main_while0c_v25 : Ref sig .tc := ⟨.hbm, 43, rfl⟩
abbrev main_while0b_c_11 : Ref sig .tc := ⟨.hbm, 44, rfl⟩
abbrev main_while0b_v25 : Ref sig .tc := ⟨.hbm, 45, rfl⟩
abbrev main_while0b_call0_c : Ref sig .tc := ⟨.hbm, 46, rfl⟩
abbrev main_while0b_call0_v0 : Ref sig .tc := ⟨.hbm, 47, rfl⟩
abbrev main_while0b_call0_v1 : Ref sig .tc := ⟨.hbm, 48, rfl⟩
abbrev main_while0b_call0_c_0 : Ref sig .tc := ⟨.hbm, 49, rfl⟩
abbrev main_while0b_call0_v2 : Ref sig .tc := ⟨.hbm, 50, rfl⟩
abbrev main_while0b_call0_v3 : Ref sig .tc := ⟨.hbm, 51, rfl⟩
abbrev main_while0b_call0_c_1 : Ref sig .tc := ⟨.hbm, 52, rfl⟩
abbrev main_while0b_call0_c_2 : Ref sig .tc := ⟨.hbm, 53, rfl⟩
abbrev main_while0b_call0_v4 : Ref sig .tc := ⟨.hbm, 54, rfl⟩
abbrev main_while0b_v26 : Ref sig .tc := ⟨.hbm, 55, rfl⟩
abbrev main_while0b_call1_c : Ref sig .tc := ⟨.hbm, 56, rfl⟩
abbrev main_while0b_call1_v0 : Ref sig .tc := ⟨.hbm, 57, rfl⟩
abbrev main_while0b_call1_v1 : Ref sig .tc := ⟨.hbm, 58, rfl⟩
abbrev main_while0b_call1_c_0 : Ref sig .tc := ⟨.hbm, 59, rfl⟩
abbrev main_while0b_call1_v2 : Ref sig .tc := ⟨.hbm, 60, rfl⟩
abbrev main_while0b_call1_v3 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v4 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_call2_v0 : Ref sig .tc := ⟨.hbm, 82, rfl⟩
abbrev main_while0b_call2_c : Ref sig .tc := ⟨.hbm, 83, rfl⟩
abbrev main_while0b_call2_v1 : Ref sig .tc := ⟨.hbm, 84, rfl⟩
abbrev main_while0b_call2_v2 : Ref sig .tc := ⟨.hbm, 85, rfl⟩
abbrev main_while0b_call2_c_0 : Ref sig .tc := ⟨.hbm, 86, rfl⟩
abbrev main_while0b_call2_v3 : Ref sig .tc := ⟨.hbm, 87, rfl⟩
abbrev main_while0b_call2_v4 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_v44 : Ref sig .tc := ⟨.hbm, 91, rfl⟩
abbrev main_while0b_call3_v0 : Ref sig .tc := ⟨.hbm, 92, rfl⟩
abbrev main_while0b_call3_c : Ref sig .tc := ⟨.hbm, 93, rfl⟩
abbrev main_while0b_call3_v1 : Ref sig .tc := ⟨.hbm, 94, rfl⟩
abbrev main_while0b_call3_v2 : Ref sig .tc := ⟨.hbm, 95, rfl⟩
abbrev main_while0b_call3_c_0 : Ref sig .tc := ⟨.hbm, 96, rfl⟩
abbrev main_while0b_call3_v3 : Ref sig .tc := ⟨.hbm, 97, rfl⟩
abbrev main_while0b_call3_v4 : Ref sig .tc := ⟨.hbm, 98, rfl⟩
abbrev main_while0b_call3_c_1 : Ref sig .tc := ⟨.hbm, 99, rfl⟩
abbrev main_while0b_call3_c_2 : Ref sig .tc := ⟨.hbm, 100, rfl⟩
abbrev main_while0b_v45 : Ref sig .tc := ⟨.hbm, 101, rfl⟩
abbrev main_while0b_c_12 : Ref sig .tc := ⟨.hbm, 102, rfl⟩
abbrev main_while0b_v46 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩

abbrev nD : Nat := 1
abbrev τ : Topo := Topo.v7x

variable {F : FTy → Type} [FloatOps F]

abbrev main_while0_count : Scf.Loop 32 := ⟨0#32, 4096#32, 1#32⟩
-- ==== Proof.Track.lean ====
/- The memory safety of `KernelIdeal` with the contents named: what each grid point leaves in the output block and in the
   state row, and the run of the whole program from it. The body's triple at a point of each of the three kinds
   (the first point; the first point of a later sequence; any other point) comes from the generated runs. This
   module says what the point leaves, carries the prepared tables unchanged from point to point, and launches the
   region. -/
module

public import proofs.«01_k».proof.Proof.Gen.KernelIdeal.Frame.RunC
public import Idealize.ShloMosaic.Lib.Claim

@[expose] public section

set_option maxRecDepth 16384

noncomputable section

namespace Cert.KernelIdeal.Track

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point leaves -/

/-- The tables that the first point prepares and every later point reads: the weights of the sums (`wr`, `wi`), the
    powers (`vr`, `vi`), the multiplier (`lam`), and the transposed matrices of the input, of the state and of the
    direct term (`wb`, `wc`, `wd`). -/
structure Prep (F : FTy → Type) [FloatOps F] where
  wr : Vec F S256x512 .f32
  wi : Vec F S256x512 .f32
  vr : Vec F S256x512 .f32
  vi : Vec F S256x512 .f32
  lam : Vec F S1x1024 .f32
  wb : Vec F S1024x1024 .bf16
  wc : Vec F S1024x1024 .bf16
  wd : Vec F S1024x1024 .bf16

/-- The grid's first point. -/
def first : Fin cfg0.N := ⟨0, lt_of_lt_of_eq (by decide) (show cfg0.N = 64 from N_0).symm⟩

/-- The first point by its remainders. -/
theorem mod_first (t : Fin cfg0.N) (h : t.val = 0) : t.val % 64 = 0 ∧ t.val % 8 = 0 := by
  rw [h]; exact ⟨rfl, rfl⟩

/-- The later points by their remainders. -/
theorem mod_later (t : Fin cfg0.N) (h : t.val ≠ 0) : ¬t.val % 64 = 0 := by
  have hN : t.val < 64 := lt_of_lt_of_eq t.isLt (show cfg0.N = 64 from N_0)
  omega

/-- The run of the body at the first point. -/
def runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr (mod_first t h).1) ((hcond0_1 t).mpr (mod_first t h).2) (iblk m c 0 t) (iblk m c 1 t) (iblk m c 2 t) (iblk m c 3 t) (iblk m c 4 t) (V m c main_arg4) (V m c main_arg5) (V m c main_arg6) (V m c main_arg7) (V m c main_arg8)

/-- The run of the body at a point that begins a later sequence, over the prepared tables. -/
def runC (c : Dev nD) (t : Fin cfg0.N) (h : t.val ≠ 0) (h1 : t.val % 8 = 0) (p : Prep F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun e => mod_later t h ((hcond0_0 t).mp e)) ((hcond0_1 t).mpr h1) (iblk m c 0 t) (iblk m c 1 t) (iblk m c 2 t) (iblk m c 3 t) (iblk m c 4 t) p.wr p.wi p.vr p.vi p.lam p.wb p.wc p.wd (V m c main_arg4) (V m c main_arg5) (V m c main_arg6) (V m c main_arg7) (V m c main_arg8)

/-- The run of the body at a point inside a sequence, over the state row `h` and the prepared tables. -/
def runB (c : Dev nD) (t : Fin cfg0.N) (h : t.val ≠ 0) (h1 : ¬t.val % 8 = 0) (s : Vec F S1x1024 .f32) (p : Prep F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun e => mod_later t h ((hcond0_0 t).mp e)) (fun e => h1 ((hcond0_1 t).mp e)) (iblk m c 0 t) (iblk m c 1 t) (iblk m c 2 t) (iblk m c 3 t) (iblk m c 4 t) s p.wr p.wi p.vr p.vi p.lam p.wb p.wc p.wd (V m c main_arg4) (V m c main_arg5) (V m c main_arg6) (V m c main_arg7) (V m c main_arg8)

/-- The pieces that the run stores into the output block cover it. -/
theorem coverA0 (c : Dev nD) (t : Fin cfg0.N) (h : t.val = 0) (y : S1x512x1024.Idx) : ∃ pc ∈ (runA m c t h).1, y ∈ pc.1.set :=
  View.cover_of_tiledL (runA m c t h).1 S1x512x1024.size (by sl_kernel_rfl) y

/-- The pieces that the run stores into the state row cover it. -/
theorem coverA1 (c : Dev nD) (t : Fin cfg0.N) (h : t.val = 0) (y : S1x1024.Idx) : ∃ pc ∈ (runA m c t h).2.1, y ∈ pc.1.set :=
  View.cover_of_tiledL (runA m c t h).2.1 S1x1024.size (by sl_kernel_rfl) y

/-- The pieces that the run stores into the table `wr` cover it. -/
theorem coverA2 (c : Dev nD) (t : Fin cfg0.N) (h : t.val = 0) (y : S256x512.Idx) : ∃ pc ∈ (runA m c t h).2.2.1, y ∈ pc.1.set :=
  View.cover_of_tiledL (runA m c t h).2.2.1 S256x512.size (by sl_kernel_rfl) y

/-- The pieces that the run stores into the table `wi` cover it. -/
theorem coverA3 (c : Dev nD) (t : Fin cfg0.N) (h : t.val = 0) (y : S256x512.Idx) : ∃ pc ∈ (runA m c t h).2.2.2.1, y ∈ pc.1.set :=
  View.cover_of_tiledL (runA m c t h).2.2.2.1 S256x512.size (by sl_kernel_rfl) y

/-- The pieces that the run stores into the table `vr` cover it. -/
theorem coverA4 (c : Dev nD) (t : Fin cfg0.N) (h : t.val = 0) (y : S256x512.Idx) : ∃ pc ∈ (runA m c t h).2.2.2.2.1, y ∈ pc.1.set :=
  View.cover_of_tiledL (runA m c t h).2.2.2.2.1 S256x512.size (by sl_kernel_rfl) y

/-- The pieces that the run stores into the table `vi` cover it. -/
theorem coverA5 (c : Dev nD) (t : Fin cfg0.N) (h : t.val = 0) (y : S256x512.Idx) : ∃ pc ∈ (runA m c t h).2.2.2.2.2.1, y ∈ pc.1.set :=
  View.cover_of_tiledL (runA m c t h).2.2.2.2.2.1 S256x512.size (by sl_kernel_rfl) y

/-- The pieces that the run stores into the table `lam` cover it. -/
theorem coverA6 (c : Dev nD) (t : Fin cfg0.N) (h : t.val = 0) (y : S1x1024.Idx) : ∃ pc ∈ (runA m c t h).2.2.2.2.2.2.1, y ∈ pc.1.set :=
  View.cover_of_tiledL (runA m c t h).2.2.2.2.2.2.1 S1x1024.size (by sl_kernel_rfl) y

/-- The pieces that the run stores into the table `wb` cover it. -/
theorem coverA7 (c : Dev nD) (t : Fin cfg0.N) (h : t.val = 0) (y : S1024x1024.Idx) : ∃ pc ∈ (runA m c t h).2.2.2.2.2.2.2.1, y ∈ pc.1.set :=
  View.cover_of_tiledL (runA m c t h).2.2.2.2.2.2.2.1 S1024x512.size (by sl_kernel_rfl) y

/-- The pieces that the run stores into the table `wc` cover it. -/
theorem coverA8 (c : Dev nD) (t : Fin cfg0.N) (h : t.val = 0) (y : S1024x1024.Idx) : ∃ pc ∈ (runA m c t h).2.2.2.2.2.2.2.2.1, y ∈ pc.1.set :=
  View.cover_of_tiledL (runA m c t h).2.2.2.2.2.2.2.2.1 S512x1024.size (by sl_kernel_rfl) y

/-- The pieces that the run stores into the table `wd` cover it. -/
theorem coverA9 (c : Dev nD) (t : Fin cfg0.N) (h : t.val = 0) (y : S1024x1024.Idx) : ∃ pc ∈ (runA m c t h).2.2.2.2.2.2.2.2.2.1, y ∈ pc.1.set :=
  View.cover_of_tiledL (runA m c t h).2.2.2.2.2.2.2.2.2.1 S1024x1024.size (by sl_kernel_rfl) y

/-- The pieces that the run stores into the output block cover it. -/
theorem coverC0 (c : Dev nD) (t : Fin cfg0.N) (h : t.val ≠ 0) (h1 : t.val % 8 = 0) (p : Prep F) (y : S1x512x1024.Idx) : ∃ pc ∈ (runC m c t h h1 p).1, y ∈ pc.1.set :=
  View.cover_of_tiledL (runC m c t h h1 p).1 S1x512x1024.size (by sl_kernel_rfl) y

/-- The pieces that the run stores into the state row cover it. -/
theorem coverC1 (c : Dev nD) (t : Fin cfg0.N) (h : t.val ≠ 0) (h1 : t.val % 8 = 0) (p : Prep F) (y : S1x1024.Idx) : ∃ pc ∈ (runC m c t h h1 p).2.1, y ∈ pc.1.set :=
  View.cover_of_tiledL (runC m c t h h1 p).2.1 S1x1024.size (by sl_kernel_rfl) y

/-- The pieces that the run stores into the output block cover it. -/
theorem coverB0 (c : Dev nD) (t : Fin cfg0.N) (h : t.val ≠ 0) (h1 : ¬t.val % 8 = 0) (s : Vec F S1x1024 .f32) (p : Prep F) (y : S1x512x1024.Idx) : ∃ pc ∈ (runB m c t h h1 s p).1, y ∈ pc.1.set :=
  View.cover_of_tiledL (runB m c t h h1 s p).1 S1x512x1024.size (by sl_kernel_rfl) y

/-- The pieces that the run stores into the state row cover it. -/
theorem coverB1 (c : Dev nD) (t : Fin cfg0.N) (h : t.val ≠ 0) (h1 : ¬t.val % 8 = 0) (s : Vec F S1x1024 .f32) (p : Prep F) (y : S1x1024.Idx) : ∃ pc ∈ (runB m c t h h1 s p).2.1, y ∈ pc.1.set :=
  View.cover_of_tiledL (runB m c t h h1 s p).2.1 S1x1024.size (by sl_kernel_rfl) y

/-- The output block and the state row after a point of each kind. -/
def outA (c : Dev nD) (t : Fin cfg0.N) (h : t.val = 0) : Vec F S1x512x1024 .f32 :=
  VO0_5.read (Elt F) (VO0_5.writes (Elt F) VO0_5.junk (runA m c t h).1)
/-- The state row the first point leaves. -/
def rowA (c : Dev nD) (t : Fin cfg0.N) (h : t.val = 0) : Vec F S1x1024 .f32 :=
  VS0_0.read (Elt F) (VS0_0.writes (Elt F) VS0_0.junk (runA m c t h).2.1)
/-- The output block of a later point that starts a sequence. -/
def outC (c : Dev nD) (t : Fin cfg0.N) (h : t.val ≠ 0) (h1 : t.val % 8 = 0) (p : Prep F) : Vec F S1x512x1024 .f32 :=
  VO0_5.read (Elt F) (VO0_5.writes (Elt F) VO0_5.junk (runC m c t h h1 p).1)
/-- The state row of a later point that starts a sequence. -/
def rowC (c : Dev nD) (t : Fin cfg0.N) (h : t.val ≠ 0) (h1 : t.val % 8 = 0) (p : Prep F) : Vec F S1x1024 .f32 :=
  VS0_0.read (Elt F) (VS0_0.writes (Elt F) VS0_0.junk (runC m c t h h1 p).2.1)
/-- The output block of a point that continues a sequence. -/
def outB (c : Dev nD) (t : Fin cfg0.N) (h : t.val ≠ 0) (h1 : ¬t.val % 8 = 0) (s : Vec F S1x1024 .f32) (p : Prep F) : Vec F S1x512x1024 .f32 :=
  VO0_5.read (Elt F) (VO0_5.writes (Elt F) VO0_5.junk (runB m c t h h1 s p).1)
/-- The state row of a point that continues a sequence. -/
def rowB (c : Dev nD) (t : Fin cfg0.N) (h : t.val ≠ 0) (h1 : ¬t.val % 8 = 0) (s : Vec F S1x1024 .f32) (p : Prep F) : Vec F S1x1024 .f32 :=
  VS0_0.read (Elt F) (VS0_0.writes (Elt F) VS0_0.junk (runB m c t h h1 s p).2.1)

/-- The tables after the first point. -/
def prepAt (c : Dev nD) (t : Fin cfg0.N) (h : t.val = 0) : Prep F where
  wr := VS0_1.read (Elt F) (VS0_1.writes (Elt F) VS0_1.junk (runA m c t h).2.2.1)
  wi := VS0_2.read (Elt F) (VS0_2.writes (Elt F) VS0_2.junk (runA m c t h).2.2.2.1)
  vr := VS0_3.read (Elt F) (VS0_3.writes (Elt F) VS0_3.junk (runA m c t h).2.2.2.2.1)
  vi := VS0_4.read (Elt F) (VS0_4.writes (Elt F) VS0_4.junk (runA m c t h).2.2.2.2.2.1)
  lam := VS0_5.read (Elt F) (VS0_5.writes (Elt F) VS0_5.junk (runA m c t h).2.2.2.2.2.2.1)
  wb := VS0_6.read (Elt F) (VS0_6.writes (Elt F) VS0_6.junk (runA m c t h).2.2.2.2.2.2.2.1)
  wc := VS0_7.read (Elt F) (VS0_7.writes (Elt F) VS0_7.junk (runA m c t h).2.2.2.2.2.2.2.2.1)
  wd := VS0_8.read (Elt F) (VS0_8.writes (Elt F) VS0_8.junk (runA m c t h).2.2.2.2.2.2.2.2.2.1)

/-- The tables, as every point after the first finds them. -/
def prep (c : Dev nD) : Prep F := prepAt m c first rfl

/-- The state row after point `n`. -/
def rowAt (c : Dev nD) : (n : ℕ) → n < cfg0.N → Vec F S1x1024 .f32
  | 0, hn => rowA m c ⟨0, hn⟩ rfl
  | n + 1, hn =>
      if h1 : (n + 1) % 8 = 0 then rowC m c ⟨n + 1, hn⟩ (Nat.succ_ne_zero n) h1 (prep m c)
      else rowB m c ⟨n + 1, hn⟩ (Nat.succ_ne_zero n) h1 (rowAt c n (Nat.lt_of_succ_lt hn)) (prep m c)

/-- The point before a point is a point. -/
theorem pred_lt (t : Fin cfg0.N) : t.val - 1 < cfg0.N := Nat.lt_of_le_of_lt (Nat.sub_le _ _) t.isLt

/-- The state row after a later point that starts a sequence. -/
theorem rowAt_C (c : Dev nD) (t : Fin cfg0.N) (h : t.val ≠ 0) (h1 : t.val % 8 = 0) :
    rowAt m c t.val t.isLt = rowC m c t h h1 (prep m c) := by
  obtain ⟨n, hn⟩ := t
  cases n with
  | zero => exact absurd rfl h
  | succ n => exact dif_pos h1

/-- The state row after a point that continues a sequence. -/
theorem rowAt_B (c : Dev nD) (t : Fin cfg0.N) (h : t.val ≠ 0) (h1 : ¬t.val % 8 = 0) :
    rowAt m c t.val t.isLt = rowB m c t h h1 (rowAt m c (t.val - 1) (pred_lt t)) (prep m c) := by
  obtain ⟨n, hn⟩ := t
  cases n with
  | zero => exact absurd rfl h
  | succ n => exact dif_neg h1

/-- The output block that point `t` leaves. -/
def outAt (c : Dev nD) (t : Fin cfg0.N) : Vec F S1x512x1024 .f32 :=
  if h : t.val = 0 then outA m c t h
  else if h1 : t.val % 8 = 0 then outC m c t h h1 (prep m c)
  else outB m c t h h1 (rowAt m c (t.val - 1) (pred_lt t)) (prep m c)

/-! ## The invariant between points -/

/-- The scratch with the state row at `s` and the tables at `p`, beside the generator, the copy's semaphore at zero and
    the matrices left in the device's memory. -/
def Held (c : Dev nD) (s : Vec F S1x1024 .f32) (p : Prep F) : sProp 𝕄 :=
  iprop(iprop(owns (c : Thread nD τ) scM0_0 fullShare s ∗ owns (c : Thread nD τ) scM0_1 fullShare p.wr ∗ owns (c : Thread nD τ) scM0_2 fullShare p.wi ∗ owns (c : Thread nD τ) scM0_3 fullShare p.vr ∗ owns (c : Thread nD τ) scM0_4 fullShare p.vi ∗ owns (c : Thread nD τ) scM0_5 fullShare p.lam ∗ owns (c : Thread nD τ) scM0_6 fullShare p.wb ∗ owns (c : Thread nD τ) scM0_7 fullShare p.wc ∗ owns (c : Thread nD τ) scM0_8 fullShare p.wd ∗ (∃ d, owns (c : Thread nD τ) scM0_9 fullShare d)) ∗ (∃ r, prngReg c r) ∗ iprop(semVal ((c : Thread nD τ), SemLoc.dma 8) 0) ∗ iprop(hbPt0 c hbM0_0 (V m c main_arg4) ∗ hbPt0 c hbM0_1 (V m c main_arg5) ∗ hbPt0 c hbM0_2 (V m c main_arg6) ∗ hbPt0 c hbM0_3 (V m c main_arg7) ∗ hbPt0 c hbM0_4 (V m c main_arg8)))

/-- Before position `n`: at the first point the launch's invariant, afterwards the scratch as the point before left it. -/
def PhiS (c : Dev nD) : (n : ℕ) → n ≤ cfg0.N → sProp 𝕄
  | 0, _ => Pipeline.ΦD osem0 spec0 H0 (V m) c
  | n + 1, hn => Held m c (rowAt m c n hn) (prep m c)

/-- The invariant before the first point. -/
theorem PhiS_zero (c : Dev nD) (n : ℕ) (h : n ≤ cfg0.N) (hz : n = 0) :
    PhiS m c n h = Pipeline.ΦD osem0 spec0 H0 (V m) c := by
  subst hz; rfl

/-- The invariant after a point. -/
theorem PhiS_succ (c : Dev nD) (n : ℕ) (hn : n < cfg0.N) :
    PhiS m c (n + 1) hn = Held m c (rowAt m c n hn) (prep m c) := rfl

/-- The invariant before a later point. -/
theorem PhiS_pos (c : Dev nD) (n : ℕ) (h : n ≤ cfg0.N) (hz : n ≠ 0) :
    PhiS m c n h = Held m c (rowAt m c (n - 1) (by omega)) (prep m c) := by
  cases n with
  | zero => exact absurd rfl hz
  | succ n => rfl

/-! ## The pipeline's proof data -/

/-- The proof data of the pipeline on core `c`: the arrays as the region finds them, each input's buffer at its block
    after the body, the output's at `outAt`, the invariant `PhiS`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

/-- The arrays at the region's entry. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = outAt m c t := by dsimp only [dats]

/-- What window 0's buffer holds before a point. -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2000000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  rw [PhiS_castSucc m c t, PhiS_zero m c _ _ h, PhiD0_eq]
  obtain rfl : t = first := Fin.ext h
  rw [show outAt m c first = outA m c first h from dif_pos h,
    show rowAt m c first.val first.isLt = rowA m c first h from rfl, show prep m c = prepAt m c first h from rfl]
  unfold Held outA rowA prepAt
  dsimp only
  iintro ⟨⟨⟨HS0, HS1, HS2, HS3, HS4, HS5, HS6, HS7, HS8, HS9⟩, Hg, Hq0, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩⟩
  iapply ((runA m c first h).2.2.2.2.2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, ⟨%e5, H5⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%fT9, HS9⟩, Hq0, Hh0, Hh1, Hh2, Hh3, Hh4, ⟨%W', HW'⟩⟩
  isplitl [HS0 HS1 HS2 HS3 HS4 HS5 HS6 HS7 HS8 HS9 Hg Hq0 Hh0 Hh1 Hh2 Hh3 Hh4]
  · isplitl [HS0 HS1 HS2 HS3 HS4 HS5 HS6 HS7 HS8 HS9]
    · isplitl [HS0]
      · unfold owns; iexists _; isplitr
        swap; · iexact HS0
        ipureintro; exact View.read_writes_of_cover _ _ _ _ _ (coverA1 m c _ _)
      isplitl [HS1]
      · unfold owns; iexists _; isplitr
        swap; · iexact HS1
        ipureintro; exact View.read_writes_of_cover _ _ _ _ _ (coverA2 m c _ _)
      isplitl [HS2]
      · unfold owns; iexists _; isplitr
        swap; · iexact HS2
        ipureintro; exact View.read_writes_of_cover _ _ _ _ _ (coverA3 m c _ _)
      isplitl [HS3]
      · unfold owns; iexists _; isplitr
        swap; · iexact HS3
        ipureintro; exact View.read_writes_of_cover _ _ _ _ _ (coverA4 m c _ _)
      isplitl [HS4]
      · unfold owns; iexists _; isplitr
        swap; · iexact HS4
        ipureintro; exact View.read_writes_of_cover _ _ _ _ _ (coverA5 m c _ _)
      isplitl [HS5]
      · unfold owns; iexists _; isplitr
        swap; · iexact HS5
        ipureintro; exact View.read_writes_of_cover _ _ _ _ _ (coverA6 m c _ _)
      isplitl [HS6]
      · unfold owns; iexists _; isplitr
        swap; · iexact HS6
        ipureintro; exact View.read_writes_of_cover _ _ _ _ _ (coverA7 m c _ _)
      isplitl [HS7]
      · unfold owns; iexists _; isplitr
        swap; · iexact HS7
        ipureintro; exact View.read_writes_of_cover _ _ _ _ _ (coverA8 m c _ _)
      isplitl [HS8]
      · unfold owns; iexists _; isplitr
        swap; · iexact HS8
        ipureintro; exact View.read_writes_of_cover _ _ _ _ _ (coverA9 m c _ _)
      iexists _; unfold owns; iexists _; isplitr
      swap; · iexact HS9
      ipureintro; rfl
    isplitl [Hg]; · iexact Hg
    isplitl [Hq0]; · iexact Hq0
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverA0 m c _ _)

set_option maxHeartbeats 2000000 in
/-- The body at the first point of a later sequence. -/
theorem sound_begin (c : Dev nD) (t : Fin cfg0.N) (h : t.val ≠ 0) (h1 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  rw [PhiS_castSucc m c t, PhiS_pos m c _ _ h, rowAt_C m c t h h1,
    show outAt m c t = outC m c t h h1 (prep m c) from (dif_neg h).trans (dif_pos h1)]
  unfold Held outC rowC
  generalize prep m c = p
  iintro ⟨⟨⟨HS0, HS1, HS2, HS3, HS4, HS5, HS6, HS7, HS8, HS9⟩, Hg, Hq0, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩⟩
  iapply ((runC m c t h h1 p).2.2.2.2.2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexists _; iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, ⟨%e5, H5⟩, ⟨%es0, HS0⟩, HS1, HS2, HS3, HS4, HS5, HS6, HS7, HS8, HS9, Hq0, Hh0, Hh1, Hh2, Hh3, Hh4, ⟨%W', HW'⟩⟩
  isplitl [HS0 HS1 HS2 HS3 HS4 HS5 HS6 HS7 HS8 HS9 Hg Hq0 Hh0 Hh1 Hh2 Hh3 Hh4]
  · isplitl [HS0 HS1 HS2 HS3 HS4 HS5 HS6 HS7 HS8 HS9]
    · isplitl [HS0]
      · unfold owns; iexists _; isplitr
        swap; · iexact HS0
        ipureintro; exact View.read_writes_of_cover _ _ _ _ _ (coverC1 m c _ _ _ _)
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0]; · iexact Hq0
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverC0 m c _ _ _ _)

set_option maxHeartbeats 2000000 in
/-- The body at a point inside a sequence. -/
theorem sound_within (c : Dev nD) (t : Fin cfg0.N) (h : t.val ≠ 0) (h1 : ¬t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  rw [PhiS_castSucc m c t, PhiS_pos m c _ _ h, rowAt_B m c t h h1,
    show outAt m c t = outB m c t h h1 (rowAt m c (t.val - 1) (pred_lt t)) (prep m c) from (dif_neg h).trans (dif_neg h1)]
  unfold Held outB rowB
  generalize prep m c = p
  generalize rowAt m c (t.val - 1) (pred_lt t) = s
  iintro ⟨⟨⟨HS0, HS1, HS2, HS3, HS4, HS5, HS6, HS7, HS8, HS9⟩, Hg, Hq0, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩⟩
  iapply ((runB m c t h h1 s p).2.2.2.2.2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, ⟨%e5, H5⟩, ⟨%es0, HS0⟩, HS1, HS2, HS3, HS4, HS5, HS6, HS7, HS8, HS9, Hq0, Hh0, Hh1, Hh2, Hh3, Hh4, ⟨%W', HW'⟩⟩
  isplitl [HS0 HS1 HS2 HS3 HS4 HS5 HS6 HS7 HS8 HS9 Hg Hq0 Hh0 Hh1 Hh2 Hh3 Hh4]
  · isplitl [HS0 HS1 HS2 HS3 HS4 HS5 HS6 HS7 HS8 HS9]
    · isplitl [HS0]
      · unfold owns; iexists _; isplitr
        swap; · iexact HS0
        ipureintro; exact View.read_writes_of_cover _ _ _ _ _ (coverB1 m c _ _ _ _ _)
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0]; · iexact Hq0
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverB0 m c _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · by_cases h1 : t.val % 8 = 0
    · exact sound_begin m c t h h1
    · exact sound_within m c t h h1

/-- The body of the pipeline at a point. -/
theorem defs₀_row (t : Fin cfg0.N) :
    defs₀ (F := F) .tc cfg0.body (cfg0.bodyArgs t (cfg0.slots t)) = bodyAt0 t := by
  unfold defs₀; rw [Defs.onTc_tc]

/-- Every point's body keeps the invariant. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant at the region's entry. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

/-- After the last point the scratch's contents are forgotten, which gives the launch's invariant back. -/
theorem hout (c : Dev nD) : (dats m 0 c).Φ (Fin.last cfg0.N) ⊢ Pipeline.ΦD osem0 spec0 H0 (V m) c := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hN, PhiD0_eq]
  unfold Held
  iintro ⟨⟨HS0, HS1, HS2, HS3, HS4, HS5, HS6, HS7, HS8, HS9⟩, Hg, Hq0, ⟨Hh0, Hh1, Hh2, Hh3, Hh4⟩⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexact HS9
  isplitl [Hg]; · iexact Hg
  isplitl [Hq0]; · iexact Hq0
  isplitl [Hh0]; · iexact Hh0
  isplitl [Hh1]; · iexact Hh1
  isplitl [Hh2]; · iexact Hh2
  isplitl [Hh3]; · iexact Hh3
  iexact Hh4

-- the launch theorem's implicit arguments are found by unifying its conclusion with this statement
set_option backward.isDefEq.respectTransparency.types false in
/-- The launch: every array of the pipeline ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run, with what every window's array ends holding. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates without fault, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

/-- The run with the output array named: after the run it is what the points wrote back, one block each; the arguments
    are unchanged. -/
theorem run : θ_run defs (onTc (τ := τ) (main (F := F))) ⟨m, fun _ => 0, ρ⟩ (fun r => ∀ c : Dev nD,
      r.2.mem ((c.tc : Thread nD τ).loc main_v6) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1 c, h.2 c⟩)
    (θ_run_and (Q₁ := fun r => ∀ c : Dev nD, r.2.mem ((c.tc : Thread nD τ).loc main_v6) = (dats m 0 c).arrAt 5 cfg0.N)
      ((θ_run defs _ _).mono (fun r (h : Pipeline.FramePost cfgs (dats m) 0 (V m) r) c => (h c).1 5) (run_main m ρ)) (frame_of m ρ (dats m) (A_eq m) (run_main m ρ)))

end Cert.KernelIdeal.Track

end
-- ==== Proof.Body.lean ====
/- One grid point, as a function of the block of inputs, the triangle of ones, the prepared tables and the carried
   state row: the block of results it leaves, and the state row. The runs of the three kinds of point are this one
   function. -/
module

public import proofs.«01_k».proof.Proof.Track
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen Cert.KernelIdeal.Track
open Idealize.ShloMosaic Idealize.SL.Sem Idealize.ShloMosaic.TcCoe Idealize.ShloMosaic.Tactic

variable {F : FTy → Type} [FloatOps F]
variable (m : (ℓ : Loc nD τ sig) → Buf (Elt F) ℓ)

/-- The weighted inputs of the first half of the block. -/
def half (x : Vec F S1x512x1024 .f32) (p : Prep F) := k0_pay30 x p.wb p.wr p.wi

/-- The two sums of the second half, before the powers are multiplied in. -/
def sumRe (x : Vec F S1x512x1024 .f32) (tri : Vec F S256x256 .bf16) (p : Prep F) (s : Vec F S1x1024 .f32) :=
  k0_pay43 (k0_pay26 x p.wb) p.wr p.wi p.vr p.vi (k0_pay27 p.lam) (k0_pay28 p.lam) (k0_pay29 tri) (half x p) tri s
/-- The imaginary one of the two sums of the second half. -/
def sumIm (x : Vec F S1x512x1024 .f32) (tri : Vec F S256x256 .bf16) (p : Prep F) (s : Vec F S1x1024 .f32) :=
  k0_pay44 (k0_pay26 x p.wb) p.wr p.wi p.vr p.vi (k0_pay27 p.lam) (k0_pay28 p.lam) (k0_pay29 tri) (half x p) tri s

/-- The block of results. -/
def blk (x : Vec F S1x512x1024 .f32) (tri : Vec F S256x256 .bf16) (p : Prep F) (s : Vec F S1x1024 .f32) :
    Vec F S1x512x1024 .f32 :=
  k0_pay4 (k0_pay25 x) p.vr p.vi
    (k0_pay39 p.vr p.vi (k0_pay27 p.lam) (k0_pay28 p.lam) (k0_pay29 tri) (half x p) s)
    (k0_pay40 p.vr p.vi (k0_pay27 p.lam) (k0_pay28 p.lam) (k0_pay29 tri) (half x p) s)
    (sumRe x tri p s) (sumIm x tri p s) (mulf p.vr (sumRe x tri p s)) (mulf p.vi (sumIm x tri p s)) p.wd p.wc

/-- The state row after the block. -/
def row (x : Vec F S1x512x1024 .f32) (tri : Vec F S256x256 .bf16) (p : Prep F) (s : Vec F S1x1024 .f32) :
    Vec F S1x1024 .f32 :=
  k0_pay3 p.vr p.vi (sumRe x tri p s) (sumIm x tri p s) (mulf p.vr (sumRe x tri p s)) (mulf p.vi (sumIm x tri p s))

/-- A point that continues a sequence leaves the block of results computed from the carried row. -/
theorem outB_eq (c : Dev nD) (t : Fin cfg0.N) (h : t.val ≠ 0) (h1 : ¬t.val % 8 = 0) (s : Vec F S1x1024 .f32)
    (p : Prep F) : outB m c t h h1 s p = blk (iblk m c 0 t) (iblk m c 1 t) p s := by
  unfold outB runB
  frame_out
  simp (disch := decide) only [↓ View.readCov_skip, ↓ View.readCov_cons_toLoadRect, ↓ View.readCov_fill, read_unread_whole]
  rfl

/-- A point that continues a sequence leaves the state row computed from the carried row. -/
theorem rowB_eq (c : Dev nD) (t : Fin cfg0.N) (h : t.val ≠ 0) (h1 : ¬t.val % 8 = 0) (s : Vec F S1x1024 .f32)
    (p : Prep F) : rowB m c t h h1 s p = row (iblk m c 0 t) (iblk m c 1 t) p s := by
  unfold rowB runB
  frame_out
  simp (disch := decide) only [↓ View.readCov_skip, ↓ View.readCov_cons_toLoadRect, ↓ View.readCov_fill, read_unread_whole]
  rfl

/-- A later point that starts a sequence leaves the block of results computed from the zero row. -/
theorem outC_eq (c : Dev nD) (t : Fin cfg0.N) (h : t.val ≠ 0) (h1 : t.val % 8 = 0)
    (p : Prep F) : outC m c t h h1 p = blk (iblk m c 0 t) (iblk m c 1 t) p k0_pay24 := by
  unfold outC runC
  frame_out
  simp (disch := decide) only [↓ View.readCov_skip, ↓ View.readCov_cons_toLoadRect, ↓ View.readCov_fill, read_unread_whole]
  rfl

/-- A later point that starts a sequence leaves the state row computed from the zero row. -/
theorem rowC_eq (c : Dev nD) (t : Fin cfg0.N) (h : t.val ≠ 0) (h1 : t.val % 8 = 0)
    (p : Prep F) : rowC m c t h h1 p = row (iblk m c 0 t) (iblk m c 1 t) p k0_pay24 := by
  unfold rowC runC
  frame_out
  simp (disch := decide) only [↓ View.readCov_skip, ↓ View.readCov_cons_toLoadRect, ↓ View.readCov_fill, read_unread_whole]
  rfl

/-- A load of the whole of a buffer reads what the stores left. -/
theorem readCov_all {Val : EltTy → Type} {sig : RefSig} {κ : Kind} {sp : Space} {s : Shape} {e : EltTy}
    [∀ e, Nonempty (Val e)] (v : View sig κ sp s e) {off : Fin s.rank → ℕ}
    (inb : ∀ a, off a + s.size a ≤ s.size a) (L : List (View.Piece Val s e)) :
    v.readCov L (Rect.unit off (no_index s.size) inb).toLoadRect = View.canon L := by
  rw [View.readCov_eq_canon']
  funext j
  refine congrArg (View.canon L) (funext fun a => Fin.ext ?_)
  show off a + 1 * (j a).val = (j a).val
  have := inb a
  omega

/-- A store of the whole of a buffer leaves what it stored. -/
theorem canon_whole {Val : EltTy → Type} {s : Shape} {e : EltTy} [∀ e, Nonempty (Val e)] (w : s.Idx → Val e)
    (L : List (View.Piece Val s e)) : View.canon ((⟨Rect.whole s, w⟩ : View.Piece Val s e) :: L) = w :=
  View.canon_cons_unit_lit (off := fun _ => 0) (fun a => by simp) w L fun _ => rfl

/-- A copy of the whole of an array, unconverted, is the array. -/
theorem read_same {Val : EltTy → Type} {sig : RefSig} {κ : Kind} (b : Ref sig κ) (X : b.ty.shape.Idx → Val b.ty.elt) :
    ReadAs.same.apply (View.read Val (View.whole b) X) = X := rfl

section First
variable (c : Dev nD) (t : Fin cfg0.N) (h : t.val = 0)

/-! The tables that the first point prepares, from the three rows of logarithms and the matrices in the device's memory. -/

/-- The first point's table of inverse powers, real part. -/
theorem prep_wr : (prepAt m c t h).wr = k0_pay14 (iblk m c 2 t) (iblk m c 3 t) (iblk m c 4 t) := by
  unfold prepAt runA; dsimp only; frame_out

/-- The table of inverse powers, imaginary part. -/
theorem prep_wi : (prepAt m c t h).wi = k0_pay15 (iblk m c 2 t) (iblk m c 3 t) (iblk m c 4 t) := by
  unfold prepAt runA; dsimp only; frame_out

/-- The table of powers, real part. -/
theorem prep_vr : (prepAt m c t h).vr = k0_pay16 (iblk m c 2 t) (iblk m c 3 t) := by
  unfold prepAt runA; dsimp only; frame_out

/-- The table of powers, imaginary part. -/
theorem prep_vi : (prepAt m c t h).vi = k0_pay17 (iblk m c 2 t) (iblk m c 3 t) := by
  unfold prepAt runA; dsimp only; frame_out

/-- The multiplier of one step. -/
theorem prep_lam : (prepAt m c t h).lam = k0_pay18 (k0_pay5 (iblk m c 2 t)) (k0_pay6 (iblk m c 3 t)) := by
  unfold prepAt runA; dsimp only; frame_out

/-- The input matrix: its two parts transposed, side by side. -/
theorem prep_wb : (prepAt m c t h).wb = View.canon
    [⟨Rect.unit ![0, 512] ![1024, 512] inb_S1024x1024_S1024x512_0_512, k0_pay20 (V m c main_arg5)⟩,
     ⟨Rect.unit ![0, 0] ![1024, 512] inb_S1024x1024_S1024x512_0_0, k0_pay19 (V m c main_arg4)⟩] := by
  unfold prepAt runA; dsimp only; frame_out
  simp (disch := decide) only [↓ View.readCov_skip, ↓ View.readCov_cons_toLoadRect, ↓ View.readCov_fill]
  rfl

/-- The output matrix: its two parts transposed, one above the other, the imaginary one negated. -/
theorem prep_wc : (prepAt m c t h).wc = View.canon
    [⟨Rect.unit ![512, 0] ![512, 1024] inb_S1024x1024_S512x1024_512_0, k0_pay22 (V m c main_arg7)⟩,
     ⟨Rect.unit ![0, 0] ![512, 1024] inb_S1024x1024_S512x1024_0_0, k0_pay21 (V m c main_arg6)⟩] := by
  unfold prepAt runA; dsimp only; frame_out
  simp (disch := decide) only [↓ View.readCov_skip, ↓ View.readCov_cons_toLoadRect, ↓ View.readCov_fill]
  rfl

/-- The matrix of the direct term, transposed. -/
theorem prep_wd : (prepAt m c t h).wd = k0_pay23 (V m c main_arg8) := by
  unfold prepAt runA; dsimp only; frame_out
  rw [readCov_all, canon_whole]
  rfl

/-- The first point leaves the block of results computed from the zero row and the tables it has prepared. -/
theorem outA_eq : outA m c t h = blk (iblk m c 0 t) (iblk m c 1 t) (prepAt m c t h) k0_pay24 := by
  unfold blk sumRe sumIm half
  rw [prep_wr, prep_wi, prep_vr, prep_vi, prep_lam, prep_wb, prep_wc, prep_wd]
  unfold outA runA
  frame_out
  simp (disch := decide) only [↓ View.readCov_skip, ↓ View.readCov_cons_toLoadRect, ↓ View.readCov_fill]
  simp only [readCov_all, canon_whole, read_same]
  unfold k0_pay45 k0_pay46
  rfl

/-- The first point leaves the state row computed from the zero row and the tables it has prepared. -/
theorem rowA_eq : rowA m c t h = row (iblk m c 0 t) (iblk m c 1 t) (prepAt m c t h) k0_pay24 := by
  unfold row sumRe sumIm half
  rw [prep_wr, prep_wi, prep_vr, prep_vi, prep_lam, prep_wb]
  unfold rowA runA
  frame_out
  simp (disch := decide) only [↓ View.readCov_skip, ↓ View.readCov_cons_toLoadRect, ↓ View.readCov_fill]
  simp only [readCov_all, read_same]
  unfold k0_pay45 k0_pay46
  rfl

end First

end Cert.KernelIdeal.Body
-- ==== Proof.Math.lean ====
/- The recurrence in the complex numbers, apart from any program: the state after `k` steps, the closed form by
   which one block of rows computes it, and how complex numbers appear as pairs of extended reals. -/
module

public import Mathlib.Analysis.SpecialFunctions.Trigonometric.Basic
public import Mathlib.Data.EReal.Operations

@[expose] public section

noncomputable section

namespace Cert.Lru

open scoped BigOperators

/-- The state after `k` steps of `h ↦ lam * h + b k` from zero. -/
def st (lam : ℂ) (b : ℕ → ℂ) : ℕ → ℂ
  | 0 => 0
  | k + 1 => lam * st lam b k + b k

/-- The exponent of the multiplier: decay `nu`, phase `th`. -/
def rate (nu th : ℝ) : ℂ := ⟨-nu, th⟩

/-- The multiplier of one step. -/
def lamC (nu th : ℝ) : ℂ := Complex.exp (rate nu th)

/-- The multiplier's power `k`. -/
def vC (nu th : ℝ) (k : ℕ) : ℂ := Complex.exp (k * rate nu th)

/-- The input's scale times the inverse of the multiplier's power `k`. -/
def wC (nu th g : ℝ) (k : ℕ) : ℂ := g * Complex.exp (-(k * rate nu th))

/-- The power zero is one. -/
theorem vC_zero (nu th : ℝ) : vC nu th 0 = 1 := by simp [vC]

/-- Each power is the multiplier times the one before. -/
theorem vC_succ (nu th : ℝ) (k : ℕ) : vC nu th (k + 1) = lamC nu th * vC nu th k := by
  unfold vC lamC
  rw [← Complex.exp_add]
  congr 1
  push_cast
  ring

/-- A power times the scaled inverse of the same power is the scale. -/
theorem vC_mul_wC (nu th g : ℝ) (k : ℕ) : vC nu th k * wC nu th g k = g := by
  unfold vC wC
  rw [mul_left_comm, ← Complex.exp_add]
  simp

/-- The rows of one block: the powers times the running sum of the weighted inputs, with the carried state added,
    are the states. -/
theorem st_rows (nu th g : ℝ) (z : ℕ → ℂ) (q k : ℕ) :
    vC nu th k * ((∑ u ∈ Finset.range (k + 1), wC nu th g u * z (q + u))
        + lamC nu th * st (lamC nu th) (fun i => g * z i) q)
      = st (lamC nu th) (fun i => g * z i) (q + k + 1) := by
  induction k with
  | zero =>
      have h := vC_mul_wC nu th g 0
      rw [vC_zero, one_mul] at h
      simp only [zero_add, Finset.sum_range_one, add_zero, vC_zero, one_mul, h, st]
      ring
  | succ k ih =>
      have h := vC_mul_wC nu th g (k + 1)
      rw [Finset.sum_range_succ, add_right_comm, mul_add, ← mul_assoc _ (wC _ _ _ _), h, vC_succ, mul_assoc, ih]
      rfl

/-- The same with the sum over all the rows of a block, those after the row in question masked out. -/
theorem st_block (nu th g : ℝ) (z : ℕ → ℂ) (q L : ℕ) (k : Fin L) :
    vC nu th k * ((∑ u : Fin L, if u.val ≤ k.val then wC nu th g u * z (q + u) else 0)
        + lamC nu th * st (lamC nu th) (fun i => g * z i) q)
      = st (lamC nu th) (fun i => g * z i) (q + k + 1) := by
  rw [← st_rows, Finset.sum_fin_eq_sum_range, ← Finset.sum_subset (s₁ := Finset.range (k.val + 1))]
  · congr 2
    refine Finset.sum_congr rfl fun u hu => ?_
    have h : u < k.val + 1 := Finset.mem_range.mp hu
    rw [dif_pos (by omega), if_pos (by simpa using Nat.lt_succ_iff.mp h)]
  · exact Finset.range_subset_range.mpr (by omega)
  · intro u hu hn
    rw [Finset.mem_range] at hu hn
    rw [dif_pos hu, if_neg (by simpa using by omega)]

/-! ## Complex numbers as pairs of extended reals -/

/-- The real part of a product. -/
theorem mul_re (a b : ℂ) : (a.re : EReal) * b.re - (a.im : EReal) * b.im = ((a * b).re : ℝ) := by
  rw [Complex.mul_re]; norm_cast

/-- The imaginary part of a product. -/
theorem mul_im (a b : ℂ) : (a.im : EReal) * b.re + (a.re : EReal) * b.im = ((a * b).im : ℝ) := by
  rw [Complex.mul_im, add_comm]; norm_cast

/-- The real part of a sum. -/
theorem add_re (a b : ℂ) : (a.re : EReal) + b.re = ((a + b).re : ℝ) := by
  rw [Complex.add_re]; norm_cast

/-- The imaginary part of a sum. -/
theorem add_im (a b : ℂ) : (a.im : EReal) + b.im = ((a + b).im : ℝ) := by
  rw [Complex.add_im]; norm_cast

/-- A finite sum of reals, taken in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih]; norm_cast

/-- A masked sum of real parts. -/
theorem mask_re {L : ℕ} (k : ℕ) (f : Fin L → ℂ) :
    (∑ u : Fin L, (if u.val ≤ k then (1 : EReal) else 0) * ((f u).re : EReal))
      = ((∑ u : Fin L, if u.val ≤ k then f u else 0 : ℂ).re : ℝ) := by
  rw [Complex.re_sum, ← coe_sum]
  refine Finset.sum_congr rfl fun u _ => ?_
  split <;> simp

/-- A masked sum of imaginary parts. -/
theorem mask_im {L : ℕ} (k : ℕ) (f : Fin L → ℂ) :
    (∑ u : Fin L, (if u.val ≤ k then (1 : EReal) else 0) * ((f u).im : EReal))
      = ((∑ u : Fin L, if u.val ≤ k then f u else 0 : ℂ).im : ℝ) := by
  rw [Complex.im_sum, ← coe_sum]
  refine Finset.sum_congr rfl fun u _ => ?_
  split <;> simp

/-- The multiplier in real functions, real part. -/
theorem lamC_re (nu th : ℝ) : (lamC nu th).re = Real.exp (-nu) * Real.cos th := by
  simp [lamC, rate, Complex.exp_re]

/-- The multiplier in real functions, imaginary part. -/
theorem lamC_im (nu th : ℝ) : (lamC nu th).im = Real.exp (-nu) * Real.sin th := by
  simp [lamC, rate, Complex.exp_im]

/-- The powers in real functions, real part. -/
theorem vC_re (nu th : ℝ) (k : ℕ) : (vC nu th k).re = Real.exp (-(k * nu)) * Real.cos (k * th) := by
  simp [vC, rate, Complex.exp_re]

/-- The powers in real functions, imaginary part. -/
theorem vC_im (nu th : ℝ) (k : ℕ) : (vC nu th k).im = Real.exp (-(k * nu)) * Real.sin (k * th) := by
  simp [vC, rate, Complex.exp_im]

/-- The scaled inverse powers in real functions, real part. -/
theorem wC_re (nu th g : ℝ) (k : ℕ) : (wC nu th g k).re = Real.exp (k * nu) * g * Real.cos (k * th) := by
  simp [wC, rate, Complex.exp_re]
  ring

/-- The scaled inverse powers in real functions, imaginary part. -/
theorem wC_im (nu th g : ℝ) (k : ℕ) : (wC nu th g k).im = -(Real.exp (k * nu) * g * Real.sin (k * th)) := by
  simp [wC, rate, Complex.exp_im]
  ring

end Cert.Lru
-- ==== Proof.Block.lean ====
/- What one grid point computes, element by element in the extended reals. -/
module

public import proofs.«01_k».proof.Proof.Body
public import proofs.«01_k».proof.Proof.Math
public import Idealize.ShloMosaic.Lib.Pointwise

@[expose] public section

set_option maxRecDepth 16384

noncomputable section

namespace Cert.KernelIdeal.Block

open Cert.KernelIdeal Cert.KernelIdeal.Gen Cert.KernelIdeal.Track Cert.KernelIdeal.Body
open Idealize.ShloMosaic Idealize.SL.Sem Idealize.ShloMosaic.TcCoe Idealize.ShloMosaic.Tactic

open Cert.Lru

/-- Column `n` of the left half of a row of 1024. -/
abbrev lo (n : Fin 512) : Fin 1024 := ⟨n.val, by omega⟩
/-- Column `n` of the right half of a row of 1024. -/
abbrev hi (n : Fin 512) : Fin 1024 := ⟨512 + n.val, by omega⟩

/-- Row `u` of the first half of a block of 512 rows. -/
abbrev low (u : Fin 256) : Fin 512 := ⟨u.val, by omega⟩
/-- Row `u` of the second half of a block of 512 rows. -/
abbrev upp (u : Fin 256) : Fin 512 := ⟨256 + u.val, by omega⟩

/-- The state of column `n` after `k` steps on the inputs `z`. -/
def stt (nu th g : Fin 512 → ℝ) (z : Fin 512 → ℕ → ℂ) (n : Fin 512) (k : ℕ) : ℂ :=
  st (lamC (nu n) (th n)) (fun i => g n * z n i) k

/-- What a grid point finds: the tables hold the powers, the products of the inputs with the matrix are the rows `q`,
    `q + 1`, … of `z`, the triangle is ones on and below the diagonal, and the carried row is the state after `q`
    steps. -/
structure Finds (nu th g : Fin 512 → ℝ) (z : Fin 512 → ℕ → ℂ) (q : ℕ) (x : Vec Ideal S1x512x1024 .f32)
    (tri : Vec Ideal S256x256 .bf16) (p : Prep Ideal) (s : Vec Ideal S1x1024 .f32) : Prop where
  wr : ∀ (u : Fin 256) (n : Fin 512), p.wr (ix2 u n) = ((wC (nu n) (th n) (g n) u).re : EReal)
  wi : ∀ (u : Fin 256) (n : Fin 512), p.wi (ix2 u n) = ((wC (nu n) (th n) (g n) u).im : EReal)
  vr : ∀ (u : Fin 256) (n : Fin 512), p.vr (ix2 u n) = ((vC (nu n) (th n) u).re : EReal)
  vi : ∀ (u : Fin 256) (n : Fin 512), p.vi (ix2 u n) = ((vC (nu n) (th n) u).im : EReal)
  lr : ∀ n : Fin 512, p.lam (ix2 0 (lo n)) = ((lamC (nu n) (th n)).re : EReal)
  li : ∀ n : Fin 512, p.lam (ix2 0 (hi n)) = ((lamC (nu n) (th n)).im : EReal)
  zr : ∀ (r : Fin 512) (n : Fin 512), k0_pay26 x p.wb (ix2 r (lo n)) = ((z n (q + r)).re : EReal)
  zi : ∀ (r : Fin 512) (n : Fin 512), k0_pay26 x p.wb (ix2 r (hi n)) = ((z n (q + r)).im : EReal)
  tri : ∀ r u : Fin 256, tri (ix2 r u) = if u.val ≤ r.val then (1 : EReal) else 0
  sr : ∀ n : Fin 512, s (ix2 0 (lo n)) = ((stt nu th g z n q).re : EReal)
  si : ∀ n : Fin 512, s (ix2 0 (hi n)) = ((stt nu th g z n q).im : EReal)

/-- The product of a block of inputs with the input matrix. -/
theorem pay26_apply (x : Vec Ideal S1x512x1024 .f32) (wb : Vec Ideal S1024x1024 .bf16) (r : Fin 512) (n : Fin 1024) :
    k0_pay26 x wb (ix2 r n) = ∑ i : Fin 1024, x (ix3 0 r i) * wb (ix2 i n) := by
  pointwise [k0_pay26, k0_pay25]

/-- The running sum of the weighted inputs of a half block, with the carried state added: its two parts. -/
theorem sum_re (w z : Fin 256 → ℂ) (l h : ℂ) (k : ℕ) :
    (∑ u : Fin 256, (if u.val ≤ k then (1 : EReal) else 0) * ((w u * z u).re : EReal)) + ((l.re : EReal) * h.re - (l.im : EReal) * h.im)
      = (((∑ u : Fin 256, if u.val ≤ k then w u * z u else 0) + l * h).re : EReal) := by
  rw [mask_re, mul_re, add_re]

/-- The same for the imaginary part. -/
theorem sum_im (w z : Fin 256 → ℂ) (l h : ℂ) (k : ℕ) :
    (∑ u : Fin 256, (if u.val ≤ k then (1 : EReal) else 0) * ((w u * z u).im : EReal)) + ((l.im : EReal) * h.re + (l.re : EReal) * h.im)
      = (((∑ u : Fin 256, if u.val ≤ k then w u * z u else 0) + l * h).im : EReal) := by
  rw [mask_im, mul_im, add_im]

section
variable {nu th g : Fin 512 → ℝ} {z : Fin 512 → ℕ → ℂ} {q : ℕ} {x : Vec Ideal S1x512x1024 .f32}
  {tri : Vec Ideal S256x256 .bf16} {p : Prep Ideal} {s : Vec Ideal S1x1024 .f32}

/-- The sum that half a block multiplies by the powers: at row `u` of the half that begins after `q` rows. -/
def run (nu th g : Fin 512 → ℝ) (z : Fin 512 → ℕ → ℂ) (q : ℕ) (u : Fin 256) (n : Fin 512) : ℂ :=
  (∑ v : Fin 256, if v.val ≤ u.val then wC (nu n) (th n) (g n) v * z n (q + v) else 0)
    + lamC (nu n) (th n) * stt nu th g z n q

/-- That sum times the power is the state. -/
theorem vC_mul_run (nu th g : Fin 512 → ℝ) (z : Fin 512 → ℕ → ℂ) (q : ℕ) (u : Fin 256) (n : Fin 512) :
    vC (nu n) (th n) u * run nu th g z q u n = stt nu th g z n (q + u + 1) :=
  st_block (nu n) (th n) (g n) (z n) q 256 u

namespace Finds

/-- The weighted inputs of the first half. -/
theorem half_lo (h : Finds nu th g z q x tri p s) (u : Fin 256) (n : Fin 512) :
    half x p (ix2 u (lo n)) = ((wC (nu n) (th n) (g n) u * z n (q + u)).re : EReal) := by
  unfold half
  pointwise [k0_pay30]
  rw [h.wr, h.wi, h.zr (low u) n, h.zi (low u) n, mul_re]

/-- The same, imaginary parts. -/
theorem half_hi (h : Finds nu th g z q x tri p s) (u : Fin 256) (n : Fin 512) :
    half x p (ix2 u (hi n)) = ((wC (nu n) (th n) (g n) u * z n (q + u)).im : EReal) := by
  unfold half
  pointwise [k0_pay30]
  rw [h.wr, h.wi, h.zr (low u) n, h.zi (low u) n, mul_im]

/-- The sums of the first half. -/
theorem run_re (h : Finds nu th g z q x tri p s) (u : Fin 256) (n : Fin 512) :
    k0_pay35 (k0_pay27 p.lam) (k0_pay28 p.lam) (k0_pay29 tri) (half x p) s (ix2 u n) = ((run nu th g z q u n).re : EReal) := by
  pointwise [k0_pay35, k0_pay31, k0_pay33, k0_pay34, k0_pay29, k0_pay27, k0_pay28]
  rw [h.lr n, h.li n, h.sr n, h.si n]
  simp only [h.tri, h.half_lo]
  exact sum_re _ _ _ _ _

/-- The same, imaginary parts. -/
theorem run_im (h : Finds nu th g z q x tri p s) (u : Fin 256) (n : Fin 512) :
    k0_pay36 (k0_pay27 p.lam) (k0_pay28 p.lam) (k0_pay29 tri) (half x p) s (ix2 u n) = ((run nu th g z q u n).im : EReal) := by
  pointwise [k0_pay36, k0_pay31, k0_pay33, k0_pay34, k0_pay29, k0_pay27, k0_pay28]
  rw [h.lr n, h.li n, h.sr n, h.si n]
  simp only [h.tri, h.half_hi]
  exact sum_im _ _ _ _ _

/-- The states of the first half. -/
theorem first_re (h : Finds nu th g z q x tri p s) (u : Fin 256) (n : Fin 512) :
    k0_pay37 p.vr p.vi (k0_pay27 p.lam) (k0_pay28 p.lam) (k0_pay29 tri) (half x p) s (ix2 u n)
      = ((stt nu th g z n (q + u + 1)).re : EReal) := by
  pointwise [k0_pay37]
  rw [h.run_re, h.run_im, h.vr, h.vi, mul_re, vC_mul_run]

/-- The same, imaginary parts. -/
theorem first_im (h : Finds nu th g z q x tri p s) (u : Fin 256) (n : Fin 512) :
    k0_pay38 p.vr p.vi (k0_pay27 p.lam) (k0_pay28 p.lam) (k0_pay29 tri) (half x p) s (ix2 u n)
      = ((stt nu th g z n (q + u + 1)).im : EReal) := by
  pointwise [k0_pay38]
  rw [h.run_re, h.run_im, h.vr, h.vi, mul_im, vC_mul_run]

/-- The multiplier's two parts. -/
theorem lam_re (h : Finds nu th g z q x tri p s) (n : Fin 512) :
    k0_pay27 p.lam (ix2 0 n) = ((lamC (nu n) (th n)).re : EReal) := by
  pointwise [k0_pay27]
  exact h.lr n

/-- The same, imaginary parts. -/
theorem lam_im (h : Finds nu th g z q x tri p s) (n : Fin 512) :
    k0_pay28 p.lam (ix2 0 n) = ((lamC (nu n) (th n)).im : EReal) := by
  pointwise [k0_pay28]
  exact h.li n

/-- The inputs of the second half. -/
theorem upp_re (h : Finds nu th g z q x tri p s) (u : Fin 256) (n : Fin 512) (hu) (hn) :
    k0_pay26 x p.wb (ix2 ⟨256 + u.val, hu⟩ ⟨n.val, hn⟩) = ((z n (q + 256 + u)).re : EReal) := by
  rw [Nat.add_assoc]
  exact h.zr (upp u) n

/-- The same, imaginary parts. -/
theorem upp_im (h : Finds nu th g z q x tri p s) (u : Fin 256) (n : Fin 512) (hu) (hn) :
    k0_pay26 x p.wb (ix2 ⟨256 + u.val, hu⟩ ⟨512 + n.val, hn⟩) = ((z n (q + 256 + u)).im : EReal) := by
  rw [Nat.add_assoc]
  exact h.zi (upp u) n

/-- The sums of the second half. -/
theorem second_run_re (h : Finds nu th g z q x tri p s) (u : Fin 256) (n : Fin 512) :
    sumRe x tri p s (ix2 u n) = ((run nu th g z (q + 256) u n).re : EReal) := by
  unfold sumRe
  pointwise [k0_pay43, k0_pay32, k0_pay41, k0_pay42]
  rw [h.lam_re, h.lam_im, h.first_re, h.first_im]
  simp only [h.tri, h.wr, h.wi, h.upp_re, h.upp_im, mul_re]
  exact (congrArg (· + _) (mask_re u.val fun v : Fin 256 => wC (nu n) (th n) (g n) v * z n (q + 256 + v))).trans (add_re _ _)

/-- The same, imaginary parts. -/
theorem second_run_im (h : Finds nu th g z q x tri p s) (u : Fin 256) (n : Fin 512) :
    sumIm x tri p s (ix2 u n) = ((run nu th g z (q + 256) u n).im : EReal) := by
  unfold sumIm
  pointwise [k0_pay44, k0_pay32, k0_pay41, k0_pay42]
  rw [h.lam_re, h.lam_im, h.first_re, h.first_im]
  simp only [h.tri, h.wr, h.wi, h.upp_re, h.upp_im, mul_im]
  exact (congrArg (· + _) (mask_im u.val fun v : Fin 256 => wC (nu n) (th n) (g n) v * z n (q + 256 + v))).trans (add_im _ _)

/-- The states of the second half. -/
theorem second_re (h : Finds nu th g z q x tri p s) (u : Fin 256) (n : Fin 512) :
    k0_pay1 (mulf p.vr (sumRe x tri p s)) (mulf p.vi (sumIm x tri p s)) (ix2 u n)
      = ((stt nu th g z n (q + 256 + u + 1)).re : EReal) := by
  pointwise [k0_pay1]
  rw [h.second_run_re, h.second_run_im, h.vr, h.vi, mul_re, vC_mul_run]

/-- The same, imaginary parts. -/
theorem second_im (h : Finds nu th g z q x tri p s) (u : Fin 256) (n : Fin 512) :
    k0_pay2 p.vr p.vi (sumRe x tri p s) (sumIm x tri p s) (ix2 u n)
      = ((stt nu th g z n (q + 256 + u + 1)).im : EReal) := by
  pointwise [k0_pay2]
  rw [h.second_run_re, h.second_run_im, h.vr, h.vi, mul_im, vC_mul_run]

/-- The state row that the point leaves is the state after 512 steps more. -/
theorem row_lo (h : Finds nu th g z q x tri p s) (n : Fin 512) :
    row x tri p s (ix2 0 (lo n)) = ((stt nu th g z n (q + 512)).re : EReal) := by
  unfold row
  pointwise [k0_pay3]
  exact h.second_re 255 n

/-- The same, imaginary parts. -/
theorem row_hi (h : Finds nu th g z q x tri p s) (n : Fin 512) :
    row x tri p s (ix2 0 (hi n)) = ((stt nu th g z n (q + 512)).im : EReal) := by
  unfold row
  pointwise [k0_pay3]
  exact h.second_im 255 n

/-- The block of results: each row's state read out by the matrix, and the direct term. -/
theorem blk_apply (h : Finds nu th g z q x tri p s) (r : Fin 512) (o : Fin 1024) :
    blk x tri p s (ix3 0 r o)
      = (∑ n : Fin 512, ((stt nu th g z n (q + r + 1)).re : EReal) * p.wc (ix2 (lo n) o))
        + (∑ n : Fin 512, ((stt nu th g z n (q + r + 1)).im : EReal) * p.wc (ix2 (hi n) o))
        + ∑ i : Fin 1024, x (ix3 0 r i) * p.wd (ix2 i o) := by
  unfold blk
  pointwise [k0_pay4, k0_pay39, k0_pay40, k0_pay25]
  congr 2
  · refine Finset.sum_congr rfl fun n _ => ?_
    congr 1
    split
    · exact h.first_re _ n
    · refine (h.second_re _ n).trans ?_
      rw [Nat.add_assoc q, Nat.add_sub_cancel' (by omega)]
  · refine Finset.sum_congr rfl fun n _ => ?_
    congr 1
    split
    · exact h.first_im _ n
    · refine (h.second_im _ n).trans ?_
      rw [Nat.add_assoc q, Nat.add_sub_cancel' (by omega)]

end Finds

end

end Cert.KernelIdeal.Block
-- ==== Proof.Inputs.lean ====
/- What the grid points find: the blocks of the arrays, element by element. -/
module

public import proofs.«01_k».proof.Proof.Block
public import Idealize.ShloMosaic.Lib.Claim
public import Idealize.ShloMosaic.Lib.StableHlo.RunRead

@[expose] public section

set_option maxRecDepth 16384

noncomputable section

namespace Cert.KernelIdeal.Inputs

open Cert.KernelIdeal Cert.KernelIdeal.Gen Cert.KernelIdeal.Track Cert.KernelIdeal.Body Cert.KernelIdeal.Block
open Idealize.ShloMosaic Idealize.SL.Sem Idealize.ShloMosaic.TcCoe Idealize.ShloMosaic.Tactic

variable (m : (ℓ : Loc nD τ sig) → Buf (Elt Ideal) ℓ) (c : Dev nD) (t : Fin cfg0.N)

/-- Every window's block at a point. -/
theorem idx : ∀ t : Fin grid0.N, win0_0.index t = ![t.val / 8, t.val % 8, 0] ∧ win0_1.index t = ![0, 0]
    ∧ win0_2.index t = ![0, 0] ∧ win0_3.index t = ![0, 0] ∧ win0_4.index t = ![0, 0]
    ∧ win0_5.index t = ![t.val / 8, t.val % 8, 0] := by
  decide +kernel

/-- The grid has 64 points. -/
theorem t_lt (t : Fin cfg0.N) : t.val < 64 := lt_of_lt_of_eq t.isLt (show cfg0.N = 64 from N_0)

/-- The sequence of point `t`, and its row `r` in it. -/
def bat (t : Fin cfg0.N) : Fin 8 := ⟨t.val / 8, by have := t_lt t; omega⟩
/-- Row `r` of the block of point `t`, in its sequence. -/
def pos (t : Fin cfg0.N) (r : Fin 512) : Fin 4096 := ⟨t.val % 8 * 512 + r.val, by omega⟩

/-- The block of inputs at a point. -/
theorem x_apply (r : Fin 512) (i : Fin 1024) :
    iblk m c 0 t (ix3 0 r i) = m ((c.tc : Thread nD τ).loc main_arg0) (ix3 (bat t) (pos t r) i) := by
  blk_ext [iblk, V, idx t, bat, pos]

/-- The row of decay logarithms. -/
theorem nu_apply (n : Fin 512) :
    iblk m c 2 t (ix2 0 n) = m ((c.tc : Thread nD τ).loc main_arg1) (ix1 n) := by
  have h : iblk m c 2 t (ix2 0 n) = V m c main_v3 (ix2 0 n) := by blk_ext [iblk, idx t]
  rw [h]
  simp only [V, hostOps0, hostOps0_1, hostOps0_2, List.flatten_cons, List.flatten_nil, List.append_nil, List.cons_append, List.nil_append]
  entry_read
  pointwise

/-- The row of phase logarithms. -/
theorem th_apply (n : Fin 512) :
    iblk m c 3 t (ix2 0 n) = m ((c.tc : Thread nD τ).loc main_arg2) (ix1 n) := by
  have h : iblk m c 3 t (ix2 0 n) = V m c main_v4 (ix2 0 n) := by blk_ext [iblk, idx t]
  rw [h]
  simp only [V, hostOps0, hostOps0_1, hostOps0_2, List.flatten_cons, List.flatten_nil, List.append_nil, List.cons_append, List.nil_append]
  entry_read
  pointwise

/-- The row of scale logarithms. -/
theorem gl_apply (n : Fin 512) :
    iblk m c 4 t (ix2 0 n) = m ((c.tc : Thread nD τ).loc main_arg3) (ix1 n) := by
  have h : iblk m c 4 t (ix2 0 n) = V m c main_v5 (ix2 0 n) := by blk_ext [iblk, idx t]
  rw [h]
  simp only [V, hostOps0, hostOps0_1, hostOps0_2, List.flatten_cons, List.flatten_nil, List.append_nil, List.cons_append, List.nil_append]
  entry_read
  pointwise

/-- The triangle of ones on and below the diagonal. -/
theorem tri_apply (r u : Fin 256) :
    iblk m c 1 t (ix2 r u) = if u.val ≤ r.val then (1 : EReal) else 0 := by
  have h : iblk m c 1 t (ix2 r u) = V m c main_v2 (ix2 r u) := by blk_ext [iblk, idx t]
  rw [h]
  simp only [V, hostOps0, hostOps0_1, hostOps0_2, List.flatten_cons, List.flatten_nil, List.append_nil, List.cons_append, List.nil_append]
  entry_read
  change select (cmpi .sge (addi (iotaInDim S256x256 32 0) (broadcastInDim S256x256 ![] bcast_S_S256x256 (constantI S_ 32 0#32)))
      (iotaInDim S256x256 32 1)) (broadcastInDim S256x256 ![] bcast_S_S256x256 (constant S_ .f32 0x3F800000#32))
      (broadcastInDim S256x256 ![] bcast_S_S256x256 (constant S_ .f32 0x00000000#32) : FVec Ideal S256x256 .f32) (ix2 r u) = _
  pointwise
  have e : IntOp.addi (BitVec.ofNat 32 r.val) 0#32 = BitVec.ofNat 32 r.val := by simp [IntOp.addi]
  rw [e, WordCmp.cmpi_sge_ofNat (by omega) (by omega)]
  by_cases hr : u.val ≤ r.val <;> simp [Scalar.select, hr]

end Cert.KernelIdeal.Inputs
-- ==== Proof.Spec.lean ====
/- What the layer computes, as one formula in its nine arguments: no program is mentioned. -/
module

public import proofs.«01_k».proof.Proof.Math
public import Idealize.ShloMosaic.Lib.Pointwise

@[expose] public section

noncomputable section

namespace Cert.Lru

open Idealize.ShloMosaic
open scoped BigOperators

/-- The exponential as a real number: zero at minus infinity. -/
def ex (x : EReal) : ℝ := (Ideal.exp x).toReal

/-- Below plus infinity the exponential is a real number. -/
theorem exp_eq {x : EReal} (h : x < ⊤) : Ideal.exp x = (ex x : EReal) := by
  induction x with
  | bot => simp [ex]
  | coe r => simp [ex]
  | top => exact absurd h (lt_irrefl _)

/-- The exponential of a real number added to a logarithm. -/
theorem exp_add {x : EReal} (h : x < ⊤) (a : ℝ) : Ideal.exp ((a : EReal) + x) = ((Real.exp a * ex x : ℝ) : EReal) := by
  induction x with
  | bot => simp [ex]
  | coe r => rw [← EReal.coe_add, Ideal.exp_coe, Real.exp_add]; simp [ex]
  | top => exact absurd h (lt_irrefl _)

/-- The nine arguments. -/
structure Args where
  x : Fin 8 → Fin 4096 → Fin 1024 → EReal
  nu : Fin 512 → EReal
  th : Fin 512 → EReal
  gl : Fin 512 → EReal
  br : Fin 512 → Fin 1024 → EReal
  bi : Fin 512 → Fin 1024 → EReal
  cr : Fin 1024 → Fin 512 → EReal
  ci : Fin 1024 → Fin 512 → EReal
  d : Fin 1024 → Fin 1024 → EReal

/-- The input, the input matrix and the imaginary part of the output matrix are real; the three logarithms may also be
    minus infinity. -/
structure Args.Ok (A : Args) : Prop where
  x : ∀ b k i, ((A.x b k i).toReal : EReal) = A.x b k i
  br : ∀ n i, ((A.br n i).toReal : EReal) = A.br n i
  bi : ∀ n i, ((A.bi n i).toReal : EReal) = A.bi n i
  ci : ∀ o n, ((A.ci o n).toReal : EReal) = A.ci o n
  nu : ∀ n, A.nu n < ⊤
  th : ∀ n, A.th n < ⊤
  gl : ∀ n, A.gl n < ⊤

namespace Args

variable (A : Args)

/-- Row `k` of sequence `b` times column `n` of the complex input matrix. -/
def z (b : Fin 8) (n : Fin 512) (k : ℕ) : ℂ :=
  if h : k < 4096 then
    ⟨∑ i, (A.x b ⟨k, h⟩ i).toReal * (A.br n i).toReal, ∑ i, (A.x b ⟨k, h⟩ i).toReal * (A.bi n i).toReal⟩
  else 0

/-- The state of column `n` in sequence `b` after `k` steps. -/
def state (b : Fin 8) (n : Fin 512) (k : ℕ) : ℂ :=
  st (lamC (ex (A.nu n)) (ex (A.th n))) (fun i => ex (A.gl n) * A.z b n i) k

/-- The result: the real part of the states times the complex output matrix, and the direct term. -/
def out (b : Fin 8) (k : Fin 4096) (o : Fin 1024) : EReal :=
  ((∑ n, ((A.state b n (k + 1)).re : EReal) * A.cr o n) - ∑ n, ((A.state b n (k + 1)).im : EReal) * A.ci o n)
    + ∑ i, A.x b k i * A.d o i

variable {A}

/-- The inputs times the real part of the input matrix. -/
theorem Ok.z_re (h : A.Ok) (b : Fin 8) (n : Fin 512) (k : Fin 4096) :
    (∑ i, A.x b k i * A.br n i) = ((A.z b n k).re : EReal) := by
  unfold z
  rw [dif_pos k.isLt, ← coe_sum]
  refine Finset.sum_congr rfl fun i _ => ?_
  rw [EReal.coe_mul, h.x, h.br]

/-- The inputs times the imaginary part of the input matrix. -/
theorem Ok.z_im (h : A.Ok) (b : Fin 8) (n : Fin 512) (k : Fin 4096) :
    (∑ i, A.x b k i * A.bi n i) = ((A.z b n k).im : EReal) := by
  unfold z
  rw [dif_pos k.isLt, ← coe_sum]
  refine Finset.sum_congr rfl fun i _ => ?_
  rw [EReal.coe_mul, h.x, h.bi]

/-- Adding the products with the negated imaginary part of the output matrix is subtracting the products. -/
theorem Ok.sum_neg (h : A.Ok) (a : EReal) (s : Fin 512 → ℝ) (o : Fin 1024) :
    a + (∑ n, (s n : EReal) * ((0 : EReal) - A.ci o n)) = a - ∑ n, (s n : EReal) * A.ci o n := by
  have e : ∀ n, (s n : EReal) * A.ci o n = ((s n * (A.ci o n).toReal : ℝ) : EReal) := fun n => by
    rw [EReal.coe_mul, h.ci]
  have e' : ∀ n, (s n : EReal) * ((0 : EReal) - A.ci o n) = ((-(s n * (A.ci o n).toReal) : ℝ) : EReal) := fun n => by
    rw [zero_sub, EReal.coe_neg, ← e, mul_neg]
  simp only [e, e', coe_sum, Finset.sum_neg_distrib]
  rw [EReal.coe_neg, ← sub_eq_add_neg]

end Args

end Cert.Lru
-- ==== Proof.Tables.lean ====
/- The tables that the first point prepares, element by element. -/
module

public import proofs.«01_k».proof.Proof.Block
public import proofs.«01_k».proof.Proof.Spec
public import Idealize.ShloMosaic.Lib.Claim
public import Idealize.ShloMosaic.Lib.StableHlo.RunRead

@[expose] public section

set_option maxRecDepth 16384

noncomputable section

namespace Cert.KernelIdeal.Tables

open Cert.Lru
open Cert.KernelIdeal Cert.KernelIdeal.Gen Cert.KernelIdeal.Track Cert.KernelIdeal.Body Cert.KernelIdeal.Block
open Idealize.ShloMosaic Idealize.SL.Sem Idealize.ShloMosaic.TcCoe Idealize.ShloMosaic.Tactic

/-! ## The prepared tables -/

/-- A row number as a float. -/
theorem row_eq (u : Fin 256) : (FloatOps.sitofp .f32 (BitVec.ofNat 32 u.val) : Ideal .f32) = ((u.val : ℝ) : EReal) := by
  have h : (BitVec.ofNat 32 u.val).toInt = (u.val : ℤ) := WordCmp.toInt_ofNat_of_lt (by omega)
  show ((((BitVec.ofNat 32 u.val).toInt : ℤ) : ℝ) : EReal) = _
  rw [h]
  norm_cast

section
variable {a b g : Vec Ideal S1x512 .f32} (n : Fin 512) (u : Fin 256)

/-- The scaled inverse powers, real part. -/
theorem wr_apply (h1 : a (ix2 0 n) < (⊤ : EReal)) (h2 : b (ix2 0 n) < (⊤ : EReal)) (h3 : g (ix2 0 n) < (⊤ : EReal)) :
    k0_pay14 a b g (ix2 u n) = ((Lru.wC (ex (a (ix2 0 n))) (ex (b (ix2 0 n))) (ex (g (ix2 0 n))) u).re : EReal) := by
  pointwise [k0_pay14, k0_pay13, k0_pay9, k0_pay11, k0_pay8, k0_pay7, k0_pay5, k0_pay6]
  rw [row_eq, exp_eq h1, exp_eq h2, ← EReal.coe_mul, exp_add h3, ← EReal.coe_mul, Ideal.cos_coe, ← EReal.coe_mul, Lru.wC_re]

/-- The scaled inverse powers, imaginary part. -/
theorem wi_apply (h1 : a (ix2 0 n) < (⊤ : EReal)) (h2 : b (ix2 0 n) < (⊤ : EReal)) (h3 : g (ix2 0 n) < (⊤ : EReal)) :
    k0_pay15 a b g (ix2 u n) = ((Lru.wC (ex (a (ix2 0 n))) (ex (b (ix2 0 n))) (ex (g (ix2 0 n))) u).im : EReal) := by
  pointwise [k0_pay15, k0_pay13, k0_pay10, k0_pay11, k0_pay8, k0_pay7, k0_pay5, k0_pay6]
  rw [row_eq, exp_eq h1, exp_eq h2, ← EReal.coe_mul, exp_add h3, ← EReal.coe_mul, Ideal.sin_coe, ← EReal.coe_mul, Lru.wC_im,
    zero_sub, ← EReal.coe_neg]

/-- The powers, real part. -/
theorem vr_apply (h1 : a (ix2 0 n) < (⊤ : EReal)) (h2 : b (ix2 0 n) < (⊤ : EReal)) :
    k0_pay16 a b (ix2 u n) = ((Lru.vC (ex (a (ix2 0 n))) (ex (b (ix2 0 n))) u).re : EReal) := by
  pointwise [k0_pay16, k0_pay12, k0_pay9, k0_pay11, k0_pay8, k0_pay7, k0_pay5, k0_pay6]
  rw [row_eq, exp_eq h1, exp_eq h2, zero_sub, ← EReal.coe_mul, ← EReal.coe_mul, ← EReal.coe_neg, Ideal.exp_coe, Ideal.cos_coe,
    ← EReal.coe_mul, Lru.vC_re]

/-- The powers, imaginary part. -/
theorem vi_apply (h1 : a (ix2 0 n) < (⊤ : EReal)) (h2 : b (ix2 0 n) < (⊤ : EReal)) :
    k0_pay17 a b (ix2 u n) = ((Lru.vC (ex (a (ix2 0 n))) (ex (b (ix2 0 n))) u).im : EReal) := by
  pointwise [k0_pay17, k0_pay12, k0_pay10, k0_pay11, k0_pay8, k0_pay7, k0_pay5, k0_pay6]
  rw [row_eq, exp_eq h1, exp_eq h2, zero_sub, ← EReal.coe_mul, ← EReal.coe_mul, ← EReal.coe_neg, Ideal.exp_coe, Ideal.sin_coe,
    ← EReal.coe_mul, Lru.vC_im]

/-- The multiplier, real part. -/
theorem lr_apply (h1 : a (ix2 0 n) < (⊤ : EReal)) (h2 : b (ix2 0 n) < (⊤ : EReal)) :
    k0_pay18 (k0_pay5 a) (k0_pay6 b) (ix2 0 (lo n)) = ((Lru.lamC (ex (a (ix2 0 n))) (ex (b (ix2 0 n)))).re : EReal) := by
  pointwise [k0_pay18, k0_pay5, k0_pay6]
  rw [exp_eq h1, exp_eq h2, zero_sub, ← EReal.coe_neg, Ideal.exp_coe, Ideal.cos_coe, ← EReal.coe_mul, Lru.lamC_re]

/-- The multiplier, imaginary part. -/
theorem li_apply (h1 : a (ix2 0 n) < (⊤ : EReal)) (h2 : b (ix2 0 n) < (⊤ : EReal)) :
    k0_pay18 (k0_pay5 a) (k0_pay6 b) (ix2 0 (hi n)) = ((Lru.lamC (ex (a (ix2 0 n))) (ex (b (ix2 0 n)))).im : EReal) := by
  pointwise [k0_pay18, k0_pay5, k0_pay6]
  rw [exp_eq h1, exp_eq h2, zero_sub, ← EReal.coe_neg, Ideal.exp_coe, Ideal.sin_coe, ← EReal.coe_mul, Lru.lamC_im]

end

/-! The matrices: the two halves stored side by side, each transposed. -/

section
variable (n : Fin 512) (i : Fin 1024)

/-- The left half of the input matrix is its real part. -/
theorem wb_lo (P Q : Vec Ideal S512x1024 .f32) : View.canon (Val := Elt Ideal) (e := .bf16)
    [⟨Rect.unit ![0, 512] ![1024, 512] inb_S1024x1024_S1024x512_0_512, k0_pay20 P⟩,
     ⟨Rect.unit ![0, 0] ![1024, 512] inb_S1024x1024_S1024x512_0_0, k0_pay19 Q⟩] (ix2 i (lo n)) = Q (ix2 n i) := by
  rw [View.canon_cons_of_not_mem _ _ (Rect.not_mem_set_of_axis _ _ 1 512 512 rfl rfl rfl (Or.inl n.isLt))]
  have h : ix2 i (lo n) = (Rect.unit ![0, 0] ![1024, 512] inb_S1024x1024_S1024x512_0_0).emb (ix2 i n) := by
    funext a; fin_cases a <;> exact Fin.ext (by simp [ix2])
  rw [h, View.canon_cons_emb]
  pointwise [k0_pay19]

/-- The right half of the input matrix is its imaginary part. -/
theorem wb_hi (P Q : Vec Ideal S512x1024 .f32) : View.canon (Val := Elt Ideal) (e := .bf16)
    [⟨Rect.unit ![0, 512] ![1024, 512] inb_S1024x1024_S1024x512_0_512, k0_pay20 P⟩,
     ⟨Rect.unit ![0, 0] ![1024, 512] inb_S1024x1024_S1024x512_0_0, k0_pay19 Q⟩] (ix2 i (hi n)) = P (ix2 n i) := by
  have h : ix2 i (hi n) = (Rect.unit ![0, 512] ![1024, 512] inb_S1024x1024_S1024x512_0_512).emb (ix2 i n) := by
    funext a; fin_cases a <;> exact Fin.ext (by simp [ix2])
  rw [h, View.canon_cons_emb]
  pointwise [k0_pay20]

/-- The upper half of the output matrix is its real part. -/
theorem wc_lo (P Q : Vec Ideal S1024x512 .f32) : View.canon (Val := Elt Ideal) (e := .bf16)
    [⟨Rect.unit ![512, 0] ![512, 1024] inb_S1024x1024_S512x1024_512_0, k0_pay22 P⟩,
     ⟨Rect.unit ![0, 0] ![512, 1024] inb_S1024x1024_S512x1024_0_0, k0_pay21 Q⟩] (ix2 (lo n) i) = Q (ix2 i n) := by
  rw [View.canon_cons_of_not_mem _ _ (Rect.not_mem_set_of_axis _ _ 0 512 512 rfl rfl rfl (Or.inl n.isLt))]
  have h : ix2 (lo n) i = (Rect.unit ![0, 0] ![512, 1024] inb_S1024x1024_S512x1024_0_0).emb (ix2 n i) := by
    funext a; fin_cases a <;> exact Fin.ext (by simp [ix2])
  rw [h, View.canon_cons_emb]
  pointwise [k0_pay21]

/-- The lower half of the output matrix is its imaginary part, negated. -/
theorem wc_hi (P Q : Vec Ideal S1024x512 .f32) : View.canon (Val := Elt Ideal) (e := .bf16)
    [⟨Rect.unit ![512, 0] ![512, 1024] inb_S1024x1024_S512x1024_512_0, k0_pay22 P⟩,
     ⟨Rect.unit ![0, 0] ![512, 1024] inb_S1024x1024_S512x1024_0_0, k0_pay21 Q⟩] (ix2 (hi n) i) = (0 : EReal) - P (ix2 i n) := by
  have h : ix2 (hi n) i = (Rect.unit ![512, 0] ![512, 1024] inb_S1024x1024_S512x1024_512_0).emb (ix2 n i) := by
    funext a; fin_cases a <;> exact Fin.ext (by simp [ix2])
  rw [h, View.canon_cons_emb]
  pointwise [k0_pay22]

/-- The matrix of the direct term. -/
theorem wd_apply (P : Vec Ideal S1024x1024 .f32) (o : Fin 1024) : k0_pay23 P (ix2 i o) = P (ix2 o i) := by
  pointwise [k0_pay23]

end

end Cert.KernelIdeal.Tables
-- ==== Proof.Rows.lean ====
/- What the kernel's output array holds: at every grid point the tables, the inputs and the carried row are as the block
   computation expects them, so the blocks together are the layer's result. -/
module

public import proofs.«01_k».proof.Proof.Inputs
public import proofs.«01_k».proof.Proof.Tables

@[expose] public section

set_option maxRecDepth 16384

noncomputable section

namespace Cert.KernelIdeal.Rows

open Cert.KernelIdeal Cert.KernelIdeal.Gen Cert.KernelIdeal.Track Cert.KernelIdeal.Body Cert.KernelIdeal.Block
open Cert.KernelIdeal.Inputs Cert.KernelIdeal.Tables Cert.Lru
open Idealize.ShloMosaic Idealize.SL.Sem Idealize.ShloMosaic.TcCoe Idealize.ShloMosaic.Tactic

variable (m : (ℓ : Loc nD τ sig) → Buf (Elt Ideal) ℓ) (c : Dev nD)

/-- The nine argument arrays, by their coordinates. -/
def args : Args where
  x b k i := m ((c.tc : Thread nD τ).loc main_arg0) (ix3 b k i)
  nu n := m ((c.tc : Thread nD τ).loc main_arg1) (ix1 n)
  th n := m ((c.tc : Thread nD τ).loc main_arg2) (ix1 n)
  gl n := m ((c.tc : Thread nD τ).loc main_arg3) (ix1 n)
  br n i := m ((c.tc : Thread nD τ).loc main_arg4) (ix2 n i)
  bi n i := m ((c.tc : Thread nD τ).loc main_arg5) (ix2 n i)
  cr o n := m ((c.tc : Thread nD τ).loc main_arg6) (ix2 o n)
  ci o n := m ((c.tc : Thread nD τ).loc main_arg7) (ix2 o n)
  d o i := m ((c.tc : Thread nD τ).loc main_arg8) (ix2 o i)

/-- The first point is number zero. -/
theorem first_val : (first : Fin cfg0.N).val = 0 := rfl

/-- The tables are those of the first point. -/
theorem prep_eq : prep m c = prepAt m c first first_val := rfl

/-- The block computation's premise at point `t`, for tables `p` and carried row `s`. -/
abbrev FindsAt (t : Fin cfg0.N) (p : Prep Ideal) (s : Vec Ideal S1x1024 .f32) : Prop :=
  Finds (fun n => ex ((args m c).nu n)) (fun n => ex ((args m c).th n)) (fun n => ex ((args m c).gl n))
    ((args m c).z (bat t)) (t.val % 8 * 512) (iblk m c 0 t) (iblk m c 1 t) p s

/-- A row that holds the states of sequence `b` after `k` steps. -/
def Holds (b : Fin 8) (k : ℕ) (s : Vec Ideal S1x1024 .f32) : Prop :=
  ∀ n : Fin 512, s (ix2 0 (lo n)) = (((args m c).state b n k).re : EReal)
    ∧ s (ix2 0 (hi n)) = (((args m c).state b n k).im : EReal)

/-- The row of zeros from which every sequence starts. -/
abbrev zeroRow : Vec Ideal S1x1024 .f32 := k0_pay24 (F := Ideal)

/-- The first point starts a sequence. -/
theorem first_mod : (first : Fin cfg0.N).val % 8 = 0 := rfl

/-- The zero row holds the states after no step. -/
theorem holds_zero (b : Fin 8) : Holds m c b 0 zeroRow := by
  intro n
  have h : (args m c).state b n 0 = 0 := rfl
  rw [h]
  constructor <;> (pointwise [zeroRow, k0_pay24]; simp)

section
variable {m c} (ok : (args m c).Ok)
include ok

/-- Every point finds what the block computation expects, if the row it starts from holds its sequence's states. -/
theorem finds (t : Fin cfg0.N) (s : Vec Ideal S1x1024 .f32) (hs : Holds m c (bat t) (t.val % 8 * 512) s) :
    FindsAt m c t (prep m c) s where
  wr u n := by
    rw [prep_eq, prep_wr, wr_apply n u (by rw [nu_apply]; exact ok.nu n)
      (by rw [th_apply]; exact ok.th n) (by rw [gl_apply]; exact ok.gl n), nu_apply, th_apply, gl_apply]
    rfl
  wi u n := by
    rw [prep_eq, prep_wi, wi_apply n u (by rw [nu_apply]; exact ok.nu n)
      (by rw [th_apply]; exact ok.th n) (by rw [gl_apply]; exact ok.gl n), nu_apply, th_apply, gl_apply]
    rfl
  vr u n := by
    rw [prep_eq, prep_vr, vr_apply n u (by rw [nu_apply]; exact ok.nu n)
      (by rw [th_apply]; exact ok.th n), nu_apply, th_apply]
    rfl
  vi u n := by
    rw [prep_eq, prep_vi, vi_apply n u (by rw [nu_apply]; exact ok.nu n)
      (by rw [th_apply]; exact ok.th n), nu_apply, th_apply]
    rfl
  lr n := by
    rw [prep_eq, prep_lam, lr_apply n (by rw [nu_apply]; exact ok.nu n)
      (by rw [th_apply]; exact ok.th n), nu_apply, th_apply]
    rfl
  li n := by
    rw [prep_eq, prep_lam, li_apply n (by rw [nu_apply]; exact ok.nu n)
      (by rw [th_apply]; exact ok.th n), nu_apply, th_apply]
    rfl
  zr r n := by
    rw [pay26_apply, prep_eq, prep_wb]
    simp only [x_apply, wb_lo, V_main_arg4]
    exact ok.z_re (bat t) n (pos t r)
  zi r n := by
    rw [pay26_apply, prep_eq, prep_wb]
    simp only [x_apply, wb_hi, V_main_arg5]
    exact ok.z_im (bat t) n (pos t r)
  tri r u := tri_apply m c t r u
  sr n := (hs n).1
  si n := (hs n).2

/-- The state row after a point: the states of its sequence after its last row. -/
theorem holds_row (t : Fin cfg0.N) (s : Vec Ideal S1x1024 .f32) (hs : Holds m c (bat t) (t.val % 8 * 512) s) :
    Holds m c (bat t) ((t.val % 8 + 1) * 512) (row (iblk m c 0 t) (iblk m c 1 t) (prep m c) s) := by
  intro n
  rw [Nat.add_mul, Nat.one_mul]
  exact ⟨(finds ok t s hs).row_lo n, (finds ok t s hs).row_hi n⟩

/-- A point that starts a sequence starts from the zero row. -/
theorem first_row (t : Fin cfg0.N) (h : t.val % 8 = 0) : Holds m c (bat t) (t.val % 8 * 512) zeroRow := by
  rw [h, Nat.zero_mul]
  exact holds_zero m c (bat t)

/-- The row carried out of every point. -/
theorem holds_rowAt (n : ℕ) : ∀ t : Fin cfg0.N, t.val = n →
    Holds m c (bat t) ((t.val % 8 + 1) * 512) (rowAt m c t.val t.isLt) := by
  induction n with
  | zero =>
      intro t ht
      obtain rfl : t = first := Fin.ext ht
      rw [show rowAt m c (first : Fin cfg0.N).val (first : Fin cfg0.N).isLt = rowA m c first first_val from rfl, rowA_eq]
      exact holds_row ok first zeroRow (first_row ok first first_mod)
  | succ n ih =>
      intro t ht
      have h : t.val ≠ 0 := by omega
      by_cases h1 : t.val % 8 = 0
      · rw [rowAt_C m c t h h1, rowC_eq]
        exact holds_row ok t zeroRow (first_row ok t h1)
      · rw [rowAt_B m c t h h1, rowB_eq]
        refine holds_row ok t _ ?_
        have hp := ih ⟨t.val - 1, pred_lt t⟩ (by simp only; omega)
        have e : bat ⟨t.val - 1, pred_lt t⟩ = bat t := Fin.ext (by simp only [bat]; omega)
        have e' : (t.val - 1) % 8 + 1 = t.val % 8 := by omega
        simp only [e, e'] at hp
        exact hp

/-- The row that a point which continues a sequence finds. -/
theorem holds_pred (t : Fin cfg0.N) (h1 : ¬t.val % 8 = 0) :
    Holds m c (bat t) (t.val % 8 * 512) (rowAt m c (t.val - 1) (pred_lt t)) := by
  have hp := holds_rowAt ok (t.val - 1) ⟨t.val - 1, pred_lt t⟩ rfl
  have e : bat ⟨t.val - 1, pred_lt t⟩ = bat t := Fin.ext (by simp only [bat]; omega)
  have e' : (t.val - 1) % 8 + 1 = t.val % 8 := by omega
  simp only [e, e'] at hp
  exact hp

/-- One element of a block of results. -/
theorem blk_out (t : Fin cfg0.N) (s : Vec Ideal S1x1024 .f32) (hs : Holds m c (bat t) (t.val % 8 * 512) s)
    (r : Fin 512) (o : Fin 1024) :
    blk (iblk m c 0 t) (iblk m c 1 t) (prep m c) s (ix3 0 r o) = (args m c).out (bat t) (pos t r) o := by
  rw [(finds ok t s hs).blk_apply, prep_eq, prep_wc, prep_wd]
  simp only [x_apply, wc_lo, wc_hi, wd_apply, V_main_arg6, V_main_arg7, V_main_arg8]
  exact congrArg (· + _) (ok.sum_neg _ _ o)

/-- One element of the block that a point leaves in the output array. -/
theorem outAt_apply (t : Fin cfg0.N) (r : Fin 512) (o : Fin 1024) :
    outAt m c t (ix3 0 r o) = (args m c).out (bat t) (pos t r) o := by
  unfold outAt
  split
  case isTrue h =>
    obtain rfl : t = first := Fin.ext h
    rw [outA_eq]
    exact blk_out ok first _ (first_row ok first first_mod) r o
  case isFalse h =>
    split
    case isTrue h1 =>
      rw [outC_eq]
      exact blk_out ok t _ (first_row ok t h1) r o
    case isFalse h1 =>
      rw [outB_eq]
      exact blk_out ok t _ (holds_pred ok t h1) r o

omit ok in
/-- Where the elements of a point's block lie in the output array. -/
theorem emb_out (t : Fin cfg0.N) (r : Fin 512) (o : Fin 1024) :
    ((View.whole main_v6).slice (win0_5.rect t)).emb (ix3 0 r o) = ix3 (bat t) (pos t r) o := by
  funext a
  fin_cases a <;> exact Fin.ext (by blk_simp [idx t, bat, pos]; rfl)

/-- The output array after the run. -/
theorem arr : (dats m 0 c).arrAt 5 cfg0.N
    = fun j : S8x4096x1024.Idx => (args m c).out (j 0) (j 1) (j 2) := by
  refine (dats m 0 c).arrAt_eq_of_covers 5 _ (by decide +kernel) fun t hf y => ?_
  blk_simp
  rw [after0_5]
  idx_vars y
  obtain rfl : y0 = 0 := Subsingleton.elim _ _
  rw [emb_out]
  exact outAt_apply ok t y1 y2

end

end Cert.KernelIdeal.Rows
-- ==== Proof.Trip.lean ====
/- One trip of the reference's loop, element by element: one row of the inputs is read, the state advances by one step,
   and the new state is written into the same row of the list of states. -/
module

public import proofs.«01_k».proof.Proof.Gen.ReferenceIdeal.Run
public import proofs.«01_k».proof.Proof.Spec
public import Idealize.ShloMosaic.Lib.DynamicIndex

@[expose] public section

set_option maxRecDepth 16384

noncomputable section

namespace Cert.ReferenceIdeal.Trip

open Cert.ReferenceIdeal Cert.ReferenceIdeal.Gen Cert.ReferenceIdeal.Value Cert.Lru
open Idealize.ShloMosaic Idealize.SL.Sem Idealize.ShloMosaic.TcCoe Idealize.ShloMosaic.Tactic

/-! ## The row that a trip reads and writes -/

/-- The position of the row with the number `w` in an array of rows. -/
def start (w : IVec S_ 32) (a : Fin 3) : Int :=
  (((![constantI S_ 32 0#32, select (cmpi .slt w (constantI S_ 32 0#32)) (addi (id w) (constantI S_ 32 4096#32)) w,
    constantI S_ 32 0#32] : Fin 3 → IVec S_ 32)) a (Shape.Idx.first h_S_)).toInt

/-- Row `w` of an array of rows. -/
def row (w : IVec S_ 32) (x : FVec Ideal S8x4096x512 .f32) : FVec Ideal S8x512 .f32 :=
  shapeCast S8x512 (Host.dynamicSlice S8x1x512 x (start w) sliceFits_S8x4096x512_S8x1x512) shapeCasts_S8x1x512_S8x512

/-- An array of rows with row `w` replaced. -/
def put (w : IVec S_ 32) (x : FVec Ideal S8x4096x512 .f32) (u : FVec Ideal S8x512 .f32) : FVec Ideal S8x4096x512 .f32 :=
  Host.dynamicUpdateSlice x (broadcastInDim S8x1x512 ![0, 2] bcast_S8x512_S8x1x512_0_2 u) (start w)
    updateFits_S8x4096x512_S8x1x512

section
variable {k : ℕ} (hk : k < 4096) {w : IVec S_ 32} (hw : w = fun _ => BitVec.ofNat 32 k)
include hk hw

/-- The position of row `k`. -/
theorem start_eq (a : Fin 3) : start w a = ((![0, k, 0] : Fin 3 → ℕ) a : ℤ) := by
  subst hw
  fin_cases a
  · rfl
  · exact toInt_wrap_ofNat k (by omega)
  · rfl

/-- Row `k` lies inside the array, so its position is used as it is. -/
theorem clamp (a : Fin 3) : Host.clampedStart S8x4096x512 S8x1x512 rfl (start w) a = (![0, k, 0] : Fin 3 → ℕ) a :=
  Host.clampedStart_of_le (s := S8x4096x512) (t := S8x1x512) rfl (start w) a ((![0, k, 0] : Fin 3 → ℕ) a) (start_eq hk hw a) (by
    fin_cases a
    · show 0 + 8 ≤ 8; omega
    · show k + 1 ≤ 4096; omega
    · show 0 + 512 ≤ 512; omega)

/-- What is read is row `k`. -/
theorem row_apply (x : FVec Ideal S8x4096x512 .f32) (b : Fin 8) (n : Fin 512) :
    row w x (ix2 b n) = x (ix3 b ⟨k, hk⟩ n) := by
  pointwise [row, clamp hk hw]

/-- What is written is row `k`, and nothing else changes. -/
theorem put_apply (x : FVec Ideal S8x4096x512 .f32) (u : FVec Ideal S8x512 .f32) (b : Fin 8) (r : Fin 4096) (n : Fin 512) :
    put w x u (ix3 b r n) = if r.val = k then u (ix2 b n) else x (ix3 b r n) := by
  pointwise [put, clamp hk hw]
  by_cases h : r.val = k
  · rw [if_pos h, dif_pos (by omega)]
  · rw [if_neg h, dif_neg (by omega)]

end

/-! ## The step -/

section
variable (V : Valuation τ sig (Elt Ideal))

/-- The new state's real part, as the loop body computes it. -/
theorem re_eq : res_main_while0b_v35 V = addf (subf
      (mulf (broadcastInDim S8x512 ![0, 1] bcast_S1x512_S8x512_0_1 (broadcastInDim S1x512 ![1] bcast_S512_S1x512_1
        (V (Proc.devRef .tc main_v19_2)))) (V (Proc.devRef .tc main_v19_6)))
      (mulf (broadcastInDim S8x512 ![0, 1] bcast_S1x512_S8x512_0_1 (broadcastInDim S1x512 ![1] bcast_S512_S1x512_1
        (V (Proc.devRef .tc main_v19_3)))) (V (Proc.devRef .tc main_v19_7))))
    (row (V (Proc.devRef .tc main_v19_5)) (V (Proc.devRef .tc main_v19_0))) := rfl

/-- The new state's imaginary part, as the loop body computes it. -/
theorem im_eq : res_main_while0b_v43 V = addf (addf
      (mulf (broadcastInDim S8x512 ![0, 1] bcast_S1x512_S8x512_0_1 (broadcastInDim S1x512 ![1] bcast_S512_S1x512_1
        (V (Proc.devRef .tc main_v19_3)))) (V (Proc.devRef .tc main_v19_6)))
      (mulf (broadcastInDim S8x512 ![0, 1] bcast_S1x512_S8x512_0_1 (broadcastInDim S1x512 ![1] bcast_S512_S1x512_1
        (V (Proc.devRef .tc main_v19_2)))) (V (Proc.devRef .tc main_v19_7))))
    (row (V (Proc.devRef .tc main_v19_5)) (V (Proc.devRef .tc main_v19_1))) := rfl

/-- The list of real parts after the trip. -/
theorem list_re_eq : step_main_v19_8 V
    = put (V (Proc.devRef .tc main_v19_5)) (V (Proc.devRef .tc main_v19_8)) (res_main_while0b_v35 V) := rfl

/-- The list of imaginary parts after the trip. -/
theorem list_im_eq : step_main_v19_9 V
    = put (V (Proc.devRef .tc main_v19_5)) (V (Proc.devRef .tc main_v19_9)) (res_main_while0b_v43 V) := rfl

/-- The row number goes up by one. -/
theorem ctr_eq {k : ℕ} (h : V (Proc.devRef .tc main_v19_5) = fun _ => BitVec.ofNat 32 k) :
    step_main_v19_5 V = fun _ => BitVec.ofNat 32 (k + 1) := by
  unfold step_main_v19_5
  rw [h]
  funext i
  exact (BitVec.ofNat_add k 1).symm

end

variable {V : Valuation τ sig (Elt Ideal)} {k : ℕ}

/-- What the trip `k` finds in the arrays that the loop carries. -/
structure Inv (A : Args) (k : ℕ) (V : Valuation τ sig (Elt Ideal)) : Prop where
  zr : ∀ b r n, V (Proc.devRef .tc main_v19_0) (ix3 b r n) = (((ex (A.gl n) * A.z b n r : ℂ).re : ℝ) : EReal)
  zi : ∀ b r n, V (Proc.devRef .tc main_v19_1) (ix3 b r n) = (((ex (A.gl n) * A.z b n r : ℂ).im : ℝ) : EReal)
  lr : ∀ n, V (Proc.devRef .tc main_v19_2) (ix1 n) = ((lamC (ex (A.nu n)) (ex (A.th n))).re : EReal)
  li : ∀ n, V (Proc.devRef .tc main_v19_3) (ix1 n) = ((lamC (ex (A.nu n)) (ex (A.th n))).im : EReal)
  ctr : V (Proc.devRef .tc main_v19_5) = fun _ => BitVec.ofNat 32 k
  hr : ∀ b n, V (Proc.devRef .tc main_v19_6) (ix2 b n) = ((A.state b n k).re : EReal)
  hi : ∀ b n, V (Proc.devRef .tc main_v19_7) (ix2 b n) = ((A.state b n k).im : EReal)
  sr : ∀ b (r : Fin 4096) n, r.val < k → V (Proc.devRef .tc main_v19_8) (ix3 b r n) = ((A.state b n (r + 1)).re : EReal)
  si : ∀ b (r : Fin 4096) n, r.val < k → V (Proc.devRef .tc main_v19_9) (ix3 b r n) = ((A.state b n (r + 1)).im : EReal)

namespace Inv

variable {A : Args}

/-- The real part of the new state. -/
theorem next_re (hk : k < 4096) (h : Inv A k V) (b : Fin 8) (n : Fin 512) :
    res_main_while0b_v35 V (ix2 b n) = ((A.state b n (k + 1)).re : EReal) := by
  rw [re_eq]
  pointwise
  rw [row_apply hk h.ctr, h.lr, h.li, h.hr, h.hi, h.zr, mul_re, add_re]
  rfl

/-- The imaginary part of the new state. -/
theorem next_im (hk : k < 4096) (h : Inv A k V) (b : Fin 8) (n : Fin 512) :
    res_main_while0b_v43 V (ix2 b n) = ((A.state b n (k + 1)).im : EReal) := by
  rw [im_eq]
  pointwise
  rw [row_apply hk h.ctr, h.lr, h.li, h.hr, h.hi, h.zi, mul_im, add_im]
  rfl

/-- A trip leaves what the next one finds. -/
theorem step (hk : k < 4096) (h : Inv A k V) : Inv A (k + 1) (STEP V) where
  zr b r n := by rw [STEP_main_v19_0]; exact h.zr b r n
  zi b r n := by rw [STEP_main_v19_1]; exact h.zi b r n
  lr n := by rw [STEP_main_v19_2]; exact h.lr n
  li n := by rw [STEP_main_v19_3]; exact h.li n
  ctr := by rw [STEP_main_v19_5]; exact ctr_eq V h.ctr
  hr b n := by rw [STEP_main_v19_6]; exact h.next_re hk b n
  hi b n := by rw [STEP_main_v19_7]; exact h.next_im hk b n
  sr b r n hr := by
    rw [STEP_main_v19_8, list_re_eq, put_apply hk h.ctr]
    split
    case isTrue e => rw [h.next_re hk, e]
    case isFalse e => exact h.sr b r n (by omega)
  si b r n hr := by
    rw [STEP_main_v19_9, list_im_eq, put_apply hk h.ctr]
    split
    case isTrue e => rw [h.next_im hk, e]
    case isFalse e => exact h.si b r n (by omega)

/-- After any number of trips. -/
theorem iter (V : Valuation τ sig (Elt Ideal)) (h : Inv A 0 V) (k : ℕ) (hk : k ≤ 4096) : Inv A k (STEP^[k] V) := by
  induction k with
  | zero => exact h
  | succ k ih =>
      rw [Function.iterate_succ_apply']
      exact (ih (by omega)).step (by omega)

end Inv

end Cert.ReferenceIdeal.Trip
-- ==== Proof.Loop.lean ====
/- What the reference's result array holds: the loop's entry, its 4096 trips, and the read-out after it. -/
module

public import proofs.«01_k».proof.Proof.Trip

@[expose] public section

set_option maxRecDepth 16384

noncomputable section

namespace Cert.ReferenceIdeal.Loop

open Cert.ReferenceIdeal Cert.ReferenceIdeal.Gen Cert.ReferenceIdeal.Value Cert.ReferenceIdeal.Trip Cert.Lru
open Idealize.ShloMosaic Idealize.ShloMosaic.StableHlo Idealize.SL.Sem Idealize.ShloMosaic.TcCoe Idealize.ShloMosaic.Tactic

/-! ## The terms with which the loop starts, element by element -/

section
variable (n : Fin 512)

/-- The real part of the multiplier. -/
theorem lam_re_apply (a b : FVec Ideal S512 .f32) (ha : a (ix1 n) < (⊤ : EReal)) (hb : b (ix1 n) < (⊤ : EReal)) :
    mulf (Host.exp (Host.negf (Host.exp a))) (Host.cos (Host.exp b)) (ix1 n)
      = ((lamC (ex (a (ix1 n))) (ex (b (ix1 n)))).re : EReal) := by
  pointwise
  rw [exp_eq ha, exp_eq hb, ← EReal.coe_neg, Ideal.exp_coe, Ideal.cos_coe, ← EReal.coe_mul, lamC_re]

/-- The imaginary part of the multiplier. -/
theorem lam_im_apply (a b : FVec Ideal S512 .f32) (ha : a (ix1 n) < (⊤ : EReal)) (hb : b (ix1 n) < (⊤ : EReal)) :
    mulf (Host.exp (Host.negf (Host.exp a))) (Host.sin (Host.exp b)) (ix1 n)
      = ((lamC (ex (a (ix1 n))) (ex (b (ix1 n)))).im : EReal) := by
  pointwise
  rw [exp_eq ha, exp_eq hb, ← EReal.coe_neg, Ideal.exp_coe, Ideal.sin_coe, ← EReal.coe_mul, lamC_im]

/-- A product of the inputs with a matrix, scaled column by column. -/
theorem scaled_apply (x : FVec Ideal S8x4096x1024 .f32) (w : FVec Ideal S512x1024 .f32) (g : FVec Ideal S512 .f32)
    (hg : g (ix1 n) < (⊤ : EReal)) (b : Fin 8) (r : Fin 4096) (v : ℝ)
    (hv : (∑ i : Fin 1024, x (ix3 b r i) * w (ix2 n i)) = (v : EReal)) :
    mulf (Host.dotGeneral dot_S8x4096x1024_S512x1024_S8x4096x512_2_1_01_0_n_n none x w)
      (broadcastInDim S8x4096x512 ![0, 1, 2] bcast_S1x1x512_S8x4096x512_0_1_2
        (broadcastInDim S1x1x512 ![2] bcast_S512_S1x1x512_2 (Host.exp g))) (ix3 b r n)
      = ((ex (g (ix1 n)) * v : ℝ) : EReal) := by
  pointwise
  rw [hv, exp_eq hg, ← EReal.coe_mul, mul_comm]

/-- The state before the first trip. -/
theorem zero_apply (b : Fin 8) :
    (broadcastInDim S8x512 ![] bcast_S_S8x512 (constant S_ .f32 0x00000000#32) : FVec Ideal S8x512 .f32) (ix2 b n) = ((0 : ℝ) : EReal) := by
  pointwise
  exact EReal.coe_zero.symm

end

/-! ## The loop -/

variable (m : (ℓ : Loc nD τ sig) → Buf (Elt Ideal) ℓ) (c : Dev nD)

/-- The nine argument arrays, by their coordinates. -/
def args : Args where
  x b k i := m ((c.tc : Thread nD τ).loc main_arg0) (ix3 b k i)
  nu n := m ((c.tc : Thread nD τ).loc main_arg1) (ix1 n)
  th n := m ((c.tc : Thread nD τ).loc main_arg2) (ix1 n)
  gl n := m ((c.tc : Thread nD τ).loc main_arg3) (ix1 n)
  br n i := m ((c.tc : Thread nD τ).loc main_arg4) (ix2 n i)
  bi n i := m ((c.tc : Thread nD τ).loc main_arg5) (ix2 n i)
  cr o n := m ((c.tc : Thread nD τ).loc main_arg6) (ix2 o n)
  ci o n := m ((c.tc : Thread nD τ).loc main_arg7) (ix2 o n)
  d o i := m ((c.tc : Thread nD τ).loc main_arg8) (ix2 o i)

variable {m c} (ok : (args m c).Ok)
include ok

/-- The loop's entry. -/
theorem entry : Trip.Inv (args m c) 0 (entryContents preI m c) where
  zr b r n := by
    simp only [entryContents, afterL_cons, afterL_nil]
    after_reads_simp
    rw [Complex.re_ofReal_mul]
    exact scaled_apply n _ _ _ (ok.gl n) b r _ (ok.z_re b n r)
  zi b r n := by
    simp only [entryContents, afterL_cons, afterL_nil]
    after_reads_simp
    rw [Complex.im_ofReal_mul]
    exact scaled_apply n _ _ _ (ok.gl n) b r _ (ok.z_im b n r)
  lr n := by
    simp only [entryContents, afterL_cons, afterL_nil]
    after_reads_simp
    exact lam_re_apply n _ _ (ok.nu n) (ok.th n)
  li n := by
    simp only [entryContents, afterL_cons, afterL_nil]
    after_reads_simp
    exact lam_im_apply n _ _ (ok.nu n) (ok.th n)
  ctr := by
    simp only [entryContents, afterL_cons, afterL_nil]
    after_reads_simp
    rfl
  hr b n := by
    simp only [entryContents, afterL_cons, afterL_nil]
    after_reads_simp
    exact zero_apply n b
  hi b n := by
    simp only [entryContents, afterL_cons, afterL_nil]
    after_reads_simp
    exact zero_apply n b
  sr b r n hr := absurd hr (Nat.not_lt_zero _)
  si b r n hr := absurd hr (Nat.not_lt_zero _)

/-- The result array after the run. -/
theorem out : out_main_v24 (STEP^[4096] (entryContents preI m c))
    = fun j : S8x4096x1024.Idx => (args m c).out (j 0) (j 1) (j 2) := by
  have h := (entry ok).iter _ 4096 le_rfl
  funext j
  idx_vars j
  unfold out_main_v24
  rw [iter_main_arg0, iter_main_arg6, iter_main_arg7, iter_main_arg8]
  pointwise
  simp only [h.sr _ _ _ (Fin.isLt _), h.si _ _ _ (Fin.isLt _)]
  rfl

end Cert.ReferenceIdeal.Loop
-- ==== Proof.Finite.lean ====
/- What the precondition says of the arguments: its comparisons, read as statements about extended reals. -/
module

public import proofs.«01_k».proof.Pre_finite
public import proofs.«01_k».proof.Proof.Spec

@[expose] public section

noncomputable section

namespace Cert.Finite

open Cert.Lru
open Idealize.ShloMosaic Idealize.ShloMosaic.Tactic

/-- The shapes' relations that the precondition's operations take. -/
instance facts : Cert.Pre_finite.Facts where
  bcast_S_S8x4096x1024 := by decide
  bcast_S_S512x1024 := by decide
  bcast_S_S1024x512 := by decide
  bcast_S_S512 := by decide

section
variable {s : Shape} (hb : (⟨0, ![]⟩ : Shape).BroadcastsInDim s (![] : Fin 0 → Fin s.rank)) (x : FVec Ideal s .f32)

/-- The constant that the comparisons take is plus infinity. -/
theorem bound (i : s.Idx) :
    (broadcastInDim s ![] hb (constant ⟨0, ![]⟩ .f32 0x7F800000#32) : FVec Ideal s .f32) i = (⊤ : EReal) := by
  show Ideal.ofBits .f32 0x7F800000#32 = ⊤
  simp [Ideal.ofBits, Ideal.ieee]

/-- An entry that compares below plus infinity is below it. -/
theorem lt_top (h : cmpf .olt x (broadcastInDim s ![] hb (constant ⟨0, ![]⟩ .f32 0x7F800000#32)) = fun _ => 1#1)
    (i : s.Idx) : x i < (⊤ : EReal) := by
  have e : Ideal.cmp .olt (x i) ((broadcastInDim s ![] hb (constant ⟨0, ![]⟩ .f32 0x7F800000#32) : FVec Ideal s .f32) i) = 1#1 :=
    congrFun h i
  rw [bound] at e
  by_contra hn
  simp [Ideal.cmp, hn] at e

/-- An entry whose absolute value compares below plus infinity is a real number. -/
theorem real (h : cmpf .olt (Host.absf x) (broadcastInDim s ![] hb (constant ⟨0, ![]⟩ .f32 0x7F800000#32)) = fun _ => 1#1)
    (i : s.Idx) : ((EReal.toReal (x i) : ℝ) : EReal) = x i := by
  have e : max (x i : EReal) (-(x i : EReal)) < ⊤ := lt_top hb (Host.absf x) h i
  rw [max_lt_iff] at e
  refine EReal.coe_toReal e.1.ne fun hbot => ?_
  rw [hbot] at e
  simp at e

end

end Cert.Finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Track
public import proofs.«01_k».proof.Proof.TrackBits
public import proofs.«01_k».proof.Proof.Gen.ReferenceIdeal
public import proofs.«01_k».proof.Proof.Gen.ReferenceIdeal.Run
public import proofs.«01_k».proof.Proof.Rows
public import proofs.«01_k».proof.Proof.Loop
public import proofs.«01_k».proof.Proof.Finite
public import Idealize.ShloMosaic.Adequacy
public import Idealize.ShloMosaic.Lib.Quiescent
public import Idealize.ShloMosaic.Init

@[expose] public section

noncomputable section

namespace Cert.Proof

open Idealize.ShloMosaic Idealize.SL.Sem

open Idealize.ShloMosaic Idealize.SL.Sem Cert.Kernel

/-- The kernel at the machine's floats is memory safe. -/
theorem frame_p : Cert.quiescent_Kernel := fun m g _ => Cert.Kernel.Track.frame m g

/-- The idealized kernel is memory safe. -/
theorem frame_pi : Cert.quiescent_KernelIdeal := fun m g _ => Cert.KernelIdeal.Track.frame m g

/-- The idealized reference is memory safe: its run keeps the arguments, and it has no semaphores. -/
theorem frame_ri : Cert.quiescent_ReferenceIdeal := fun m g _ =>
  (θ_run _ _ _).mono (fun r h => ⟨fun c => (h c).2, sem_eq_zero_of_no_sems (by decide) r.2⟩) (Cert.ReferenceIdeal.Value.run m g)

/-- Under the precondition the input, the input matrix and the imaginary part of the output matrix are real, and the
    three logarithms are below plus infinity. -/
theorem ok_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (Cert.KernelIdeal.Rows.args m c).Ok where
  x b k i := Cert.Finite.real _ _ (h c).1 (ix3 b k i)
  br n i := Cert.Finite.real _ _ (h c).2.1 (ix2 n i)
  bi n i := Cert.Finite.real _ _ (h c).2.2.1 (ix2 n i)
  ci o n := Cert.Finite.real _ _ (h c).2.2.2.1 (ix2 o n)
  nu n := Cert.Finite.lt_top _ _ (h c).2.2.2.2.1 (ix1 n)
  th n := Cert.Finite.lt_top _ _ (h c).2.2.2.2.2.1 (ix1 n)
  gl n := Cert.Finite.lt_top _ _ (h c).2.2.2.2.2.2 (ix1 n)

/-- The idealized kernel computes what the idealized reference computes. -/
theorem value : Cert.algebraic_KernelIdeal_ReferenceIdeal_pre_finite := by
  intro m g m' g' hpre hagree
  refine ⟨fun c => (Cert.KernelIdeal.Track.dats m 0 c).arrAt 5 Cert.KernelIdeal.cfg0.N, Cert.KernelIdeal.Track.run m g, ?_⟩
  refine (θ_run _ _ _).mono (fun r h c => ⟨(h c).1.trans ?_, (h c).2⟩) (Cert.ReferenceIdeal.Value.run m' g')
  have ok := ok_of_pre m hpre c
  have e : Cert.ReferenceIdeal.Loop.args m' c = Cert.KernelIdeal.Rows.args m c := by
    obtain ⟨h0, h1, h2, h3, h4, h5, h6, h7, h8⟩ := hagree c
    unfold Cert.ReferenceIdeal.Loop.args Cert.KernelIdeal.Rows.args
    rw [h0, h1, h2, h3, h4, h5, h6, h7, h8]
  refine Eq.trans ?_ (Cert.KernelIdeal.Rows.arr ok).symm
  rw [Cert.ReferenceIdeal.Loop.out (e ▸ ok), e]

/-- The certificate. -/
theorem claim : Cert.Claim :=
  ⟨Cert.Kernel.Gen.facts, Cert.KernelIdeal.Gen.facts, Cert.ReferenceIdeal.Gen.facts, Cert.Finite.facts,
    frame_p, frame_pi, fun m g _ => Cert.KernelIdeal.Track.frame m g, frame_ri, fun m g _ => frame_ri m g trivial, trivial, value⟩

end Cert.Proof

end
